-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x5120 : Shape := ⟨3, ![8, 1024, 5120]⟩
abbrev S8x1024x2 : Shape := ⟨3, ![8, 1024, 2]⟩
abbrev S4x1536x5120 : Shape := ⟨3, ![4, 1536, 5120]⟩
abbrev S4x1536 : Shape := ⟨2, ![4, 1536]⟩
abbrev S4x5120x768 : Shape := ⟨3, ![4, 5120, 768]⟩
abbrev S4x5120 : Shape := ⟨2, ![4, 5120]⟩
abbrev S8192x5120 : Shape := ⟨2, ![8192, 5120]⟩
abbrev S8192x1 : Shape := ⟨2, ![8192, 1]⟩
abbrev S256x5120 : Shape := ⟨2, ![256, 5120]⟩
abbrev S256x1 : Shape := ⟨2, ![256, 1]⟩
abbrev S256 : Shape := ⟨1, ![256]⟩
abbrev S8192x2 : Shape := ⟨2, ![8192, 2]⟩
abbrev S4x1x1536 : Shape := ⟨3, ![4, 1, 1536]⟩
abbrev S4x1x5120 : Shape := ⟨3, ![4, 1, 5120]⟩
abbrev S256x2 : Shape := ⟨2, ![256, 2]⟩
abbrev S1x1536x5120 : Shape := ⟨3, ![1, 1536, 5120]⟩
abbrev S1x1x1536 : Shape := ⟨3, ![1, 1, 1536]⟩
abbrev S1x5120x768 : Shape := ⟨3, ![1, 5120, 768]⟩
abbrev S1x1x5120 : Shape := ⟨3, ![1, 1, 5120]⟩
abbrev S1536x5120 : Shape := ⟨2, ![1536, 5120]⟩
abbrev S256x1536 : Shape := ⟨2, ![256, 1536]⟩
abbrev S256x768 : Shape := ⟨2, ![256, 768]⟩
abbrev S1x1x768 : Shape := ⟨3, ![1, 1, 768]⟩
abbrev S1x768 : Shape := ⟨2, ![1, 768]⟩
abbrev S5120x768 : Shape := ⟨2, ![5120, 768]⟩
abbrev S1x5120 : Shape := ⟨2, ![1, 5120]⟩
abbrev S8x1024x1 : Shape := ⟨3, ![8, 1024, 1]⟩

abbrev nBuf : Space → Nat
  | .hbm => 18
  | .vmem => 25
  | .smem => 0
  | _ => 0

abbrev bufTy : (tb : Table) → Fin (tcTables nBuf tb) → BufTy
  | .hbm, ⟨0, _⟩ => ⟨S8x1024x5120, .bf16⟩
  | .hbm, ⟨1, _⟩ => ⟨S8x1024x2, .i32⟩
  | .hbm, ⟨2, _⟩ => ⟨S8x1024x2, .f32⟩
  | .hbm, ⟨3, _⟩ => ⟨S4x1536x5120, .fp8e4m3⟩
  | .hbm, ⟨4, _⟩ => ⟨S4x1536, .f32⟩
  | .hbm, ⟨5, _⟩ => ⟨S4x5120x768, .fp8e4m3⟩
  | .hbm, ⟨6, _⟩ => ⟨S4x5120, .f32⟩
  | .hbm, ⟨7, _⟩ => ⟨S8192x5120, .bf16⟩
  | .hbm, ⟨8, _⟩ => ⟨S8192x5120, .fp8e4m3⟩
  | .hbm, ⟨9, _⟩ => ⟨S8192x1, .f32⟩
  | .hbm, ⟨10, _⟩ => ⟨S8192x2, .i32⟩
  | .hbm, ⟨11, _⟩ => ⟨S8192x2, .f32⟩
  | .hbm, ⟨12, _⟩ => ⟨S4x1x1536, .f32⟩
  | .hbm, ⟨13, _⟩ => ⟨S4x1x5120, .f32⟩
  | .hbm, ⟨14, _⟩ => ⟨S8192x5120, .bf16⟩
  | .hbm, ⟨15, _⟩ => ⟨S8x1024x5120, .bf16⟩
  | .hbm, ⟨16, _⟩ => ⟨S8x1024x5120, .fp8e4m3⟩
  | .hbm, ⟨17, _⟩ => ⟨S8x1024x1, .f32⟩
  | .local _ .vmem, ⟨0, _⟩ => ⟨S256x5120, .bf16⟩
  | .local _ .vmem, ⟨1, _⟩ => ⟨S256x5120, .bf16⟩
  | .local _ .vmem, ⟨2, _⟩ => ⟨S256x5120, .fp8e4m3⟩
  | .local _ .vmem, ⟨3, _⟩ => ⟨S256x5120, .fp8e4m3⟩
  | .local _ .vmem, ⟨4, _⟩ => ⟨S256x1, .f32⟩
  | .local _ .vmem, ⟨5, _⟩ => ⟨S256x1, .f32⟩
  | .local _ .vmem, ⟨6, _⟩ => ⟨S256x5120, .fp8e4m3⟩
  | .local _ .vmem, ⟨7, _⟩ => ⟨S256x5120, .fp8e4m3⟩
  | .local _ .vmem, ⟨8, _⟩ => ⟨S256x1, .f32⟩
  | .local _ .vmem, ⟨9, _⟩ => ⟨S256x1, .f32⟩
  | .local _ .vmem, ⟨10, _⟩ => ⟨S256x2, .i32⟩
  | .local _ .vmem, ⟨11, _⟩ => ⟨S256x2, .i32⟩
  | .local _ .vmem, ⟨12, _⟩ => ⟨S256x2, .f32⟩
  | .local _ .vmem, ⟨13, _⟩ => ⟨S256x2, .f32⟩
  | .local _ .vmem, ⟨14, _⟩ => ⟨S1x1536x5120, .fp8e4m3⟩
  | .local _ .vmem, ⟨15, _⟩ => ⟨S1x1536x5120, .fp8e4m3⟩
  | .local _ .vmem, ⟨16, _⟩ => ⟨S1x1x1536, .f32⟩
  | .local _ .vmem, ⟨17, _⟩ => ⟨S1x1x1536, .f32⟩
  | .local _ .vmem, ⟨18, _⟩ => ⟨S1x5120x768, .fp8e4m3⟩
  | .local _ .vmem, ⟨19, _⟩ => ⟨S1x5120x768, .fp8e4m3⟩
  | .local _ .vmem, ⟨20, _⟩ => ⟨S1x1x5120, .f32⟩
  | .local _ .vmem, ⟨21, _⟩ => ⟨S1x1x5120, .f32⟩
  | .local _ .vmem, ⟨22, _⟩ => ⟨S256x5120, .bf16⟩
  | .local _ .vmem, ⟨23, _⟩ => ⟨S256x5120, .bf16⟩
  | .local _ .vmem, ⟨24, _⟩ => ⟨S256x5120, .f32⟩
  | _, _ => ⟨S8x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc1_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5120 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![32, 4], ![false, false]⟩

def k1_cond3 (i : grid1.Coords) : BitVec 1 :=
  let arg1 : BitVec 32 := BitVec.ofNat 32 (i 1).val
  let c3_i32 : BitVec 32 := 3#32
  let v160 : BitVec 1 := Scalar.cmpi .eq arg1 c3_i32
  let v161 : BitVec 32 := Scalar.extui v160
  let c0_i32_52 : BitVec 32 := 0#32
  let v162 : BitVec 1 := Scalar.cmpi .ne v161 c0_i32_52
  v162

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S256x5120 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x2 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1536x5120 .fp8e4m3 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x1x1536 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1x5120x768 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 2 → Memref sig .tc .vmem S1x1x5120 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![false, true]

abbrev stage1_8 : Fin 2 → Memref sig .tc .vmem S256x5120 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]
-- ==== ReferenceIdeal.lean ====
abbrev S8x1024x5120 : Shape := ⟨3, ![8, 1024, 5120]⟩
abbrev S8x1024x2 : Shape := ⟨3, ![8, 1024, 2]⟩
abbrev S4x1536x5120 : Shape := ⟨3, ![4, 1536, 5120]⟩
abbrev S4x1536 : Shape := ⟨2, ![4, 1536]⟩
abbrev S4x5120x768 : Shape := ⟨3, ![4, 5120, 768]⟩
abbrev S4x5120 : Shape := ⟨2, ![4, 5120]⟩
abbrev S8192x5120 : Shape := ⟨2, ![8192, 5120]⟩
abbrev S8192x2 : Shape := ⟨2, ![8192, 2]⟩
abbrev S8192x1 : Shape := ⟨2, ![8192, 1]⟩
abbrev S8192 : Shape := ⟨1, ![8192]⟩
abbrev S1x768x5120 : Shape := ⟨3, ![1, 768, 5120]⟩
abbrev S768x5120 : Shape := ⟨2, ![768, 5120]⟩
abbrev S8192x768 : Shape := ⟨2, ![8192, 768]⟩
abbrev S1x768 : Shape := ⟨2, ![1, 768]⟩
abbrev S1x5120x768 : Shape := ⟨3, ![1, 5120, 768]⟩
abbrev S5120x768 : Shape := ⟨2, ![5120, 768]⟩
abbrev S1x5120 : Shape := ⟨2, ![1, 5120]⟩
abbrev S8x1024x1 : Shape := ⟨3, ![8, 1024, 1]⟩

abbrev nBuf : Space → Nat
  | .hbm => 16
  | .vmem => 10
  | .smem => 0
  | _ => 0

abbrev bufTy : (tb : Table) → Fin (tcTables nBuf tb) → BufTy
  | .hbm, ⟨0, _⟩ => ⟨S8x1024x5120, .bf16⟩
  | .hbm, ⟨1, _⟩ => ⟨S8x1024x2, .i32⟩
  | .hbm, ⟨2, _⟩ => ⟨S8x1024x2, .f32⟩
  | .hbm, ⟨3, _⟩ => ⟨S4x1536x5120, .fp8e4m3⟩
  | .hbm, ⟨4, _⟩ => ⟨S4x1536, .f32⟩
  | .hbm, ⟨5, _⟩ => ⟨S4x5120x768, .fp8e4m3⟩
  | .hbm, ⟨6, _⟩ => ⟨S4x5120, .f32⟩
  | .hbm, ⟨7, _⟩ => ⟨S8192x5120, .bf16⟩
  | .hbm, ⟨8, _⟩ => ⟨S8192x2, .i32⟩
  | .hbm, ⟨9, _⟩ => ⟨S8192x2, .f32⟩
  | .hbm, ⟨10, _⟩ => ⟨S8192x5120, .bf16⟩
  | .hbm, ⟨11, _⟩ => ⟨S8192x5120, .fp8e4m3⟩
  | .hbm, ⟨12, _⟩ => ⟨S8192x1, .f32⟩
  | .hbm, ⟨13, _⟩ => ⟨S8x1024x5120, .bf16⟩
  | .hbm, ⟨14, _⟩ => ⟨S8x1024x5120, .fp8e4m3⟩
  | .hbm, ⟨15, _⟩ => ⟨S8x1024x1, .f32⟩
  | .local _ .vmem, ⟨0, _⟩ => ⟨S8192x5120, .bf16⟩
  | .local _ .vmem, ⟨1, _⟩ => ⟨S8192x2, .i32⟩
  | .local _ .vmem, ⟨2, _⟩ => ⟨S8192x2, .f32⟩
  | .local _ .vmem, ⟨3, _⟩ => ⟨S4x1536x5120, .fp8e4m3⟩
  | .local _ .vmem, ⟨4, _⟩ => ⟨S4x1536, .f32⟩
  | .local _ .vmem, ⟨5, _⟩ => ⟨S4x5120x768, .fp8e4m3⟩
  | .local _ .vmem, ⟨6, _⟩ => ⟨S4x5120, .f32⟩
  | .local _ .vmem, ⟨7, _⟩ => ⟨S8192x5120, .bf16⟩
  | .local _ .vmem, ⟨8, _⟩ => ⟨S8192x5120, .fp8e4m3⟩
  | .local _ .vmem, ⟨9, _⟩ => ⟨S8192x1, .f32⟩
  | _, _ => ⟨S8x1024x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S8192x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x1536x5120 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x5120x768 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x5120 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Kernel.QuantBody.lean ====
/- The first kernel call (quantising the rows): what its output blocks hold after each grid point, and its body obligation. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.RegionsLoop
public import Idealize.ShloMosaic.Lib.Pipeline.FrameSuffix
public import Idealize.ShloMosaic.Lib.UnfoldOut
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole block. -/
abbrev r0_0 : Rect S256x5120 := Rect.unit (s := S256x5120) ![0, 0] S256x5120.size inb_S256x5120_S256x5120_0_0
/-- A whole block. -/
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay8` …, after `k0_pay7`), so that
    `out0_W` and the values after it name it instead of spelling it out; the comment after each is the printed function's
    name for the value (a count appended where that name is bound again). -/

/-- The exponents found. -/
def k0_pay8 (x0 : Vec F S256x5120 .bf16) : IVec S256x1 32 :=
  k0_pay7 (k0_pay4 (View.ld x0 r0_0)) (k0_pay5 (View.ld x0 r0_0)) (k0_pay6 (View.ld x0 r0_0)) 16#32 -- `v86`

/-- Window 1's staging buffer after the body, from the input windows' blocks: its 1 store as pieces, LAST
    FIRST (Lib/Pipeline/FrameBody.lean `View.canon`; the payloads are the skeleton's and the values stated above). -/
def out0_1 (x0 : Vec F S256x5120 .bf16) : Vec F S256x5120 .fp8e4m3 :=
  View.canon [⟨r0_0, k0_pay2 (k0_pay3 (View.ld x0 r0_0)) (k0_pay8 x0)⟩]

/-- Its stores tile the buffer (checked by evaluation), so they cover it. -/
theorem cover0_1 (p0 : Vec F S256x5120 .fp8e4m3) (y : S256x5120.Idx) :
    ∃ pc ∈ ([⟨r0_0, p0⟩] : List (View.Piece (Elt F) S256x5120 .fp8e4m3)), y ∈ pc.1.set :=
  View.cover_of_tiled [⟨r0_0, p0⟩] S256x5120.size (by rfl) y

/-- Window 2's staging buffer after the body, from the input windows' blocks: its 1 store as pieces, LAST
    FIRST (Lib/Pipeline/FrameBody.lean `View.canon`; the payloads are the skeleton's and the values stated above). -/
def out0_2 (x0 : Vec F S256x5120 .bf16) : Vec F S256x1 .f32 :=
  View.canon [⟨r0_1, k0_pay1 (F := F) (k0_pay8 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x5120 .bf16) (harg1 : arg1.IsWhole) (arg2 : Memref sig .tc .vmem S256x5120 .fp8e4m3) (harg2 : arg2.IsWhole) (arg3 : Memref sig .tc .vmem S256x1 .f32) (harg3 : arg3.IsWhole)
    (x0 : Vec F S256x5120 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant i arg1 harg1 arg2 harg2 arg3 harg3) K := by
  simp only [cc0_quant_eq_skeleton]; unfold cc0_quant_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What the body leaves in window 1. -/
theorem after0_1 (c : Dev nD) (t : Fin cfg0.N) : (dat0 V c).after 1 t = out0_1 (iblk0 V c 0 t) := by dsimp only [dat0]
/-- What the body leaves in window 2. -/
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Run

end
-- ==== Proof.Kernel.MoeRuns.lean ====
/- The second kernel call (the experts) on any staging buffers: its blocks, its branch conditions over the grid and
   where its output window is idle. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.RegionsLoop
public import Idealize.ShloMosaic.Lib.Pipeline.FrameSuffix
public import Idealize.ShloMosaic.Lib.UnfoldOut
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 4) — by arithmetic of the point. -/
theorem hcond1_0 : ∀ t : Fin cfg1.N, cond1_0 (grid1.coords t) ↔ t.val % 4 = 0 :=
  (fun t => by
    have ht : t.val < 128 := Nat.lt_of_lt_of_eq t.isLt N_1
    have e0 : (grid1.coords t 0).val = t.val / 4 % 32 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond1_1 : ∀ t : Fin cfg1.N, cond1_1 (grid1.coords t) ↔ 1 ≤ t.val % 4 :=
  (by decide +kernel : ∀ t : Fin grid1.N, cond1_1 (grid1.coords t) ↔ 1 ≤ t.val % 4)

/-- The condition of the body's `scf.if` 2 (`k1_h3`), from the grid coordinates (the skeleton's scalar
    chain substituted). -/
abbrev cond1_2 (i : grid1.Coords) : Prop := k1_cond3 i = 1#1
/-- It holds at the points ≡ 3 (mod 4) — by arithmetic of the point. -/
theorem hcond1_2 : ∀ t : Fin cfg1.N, cond1_2 (grid1.coords t) ↔ t.val % 4 = 3 :=
  (fun t => by
    have ht : t.val < 128 := Nat.lt_of_lt_of_eq t.isLt N_1
    have e0 : (grid1.coords t 0).val = t.val / 4 % 32 := Pipeline.Grid.coords_val t 0 (by decide) rfl
    have e1 : (grid1.coords t 1).val = t.val / 1 % 4 := Pipeline.Grid.coords_val t 1 (by decide) rfl
    simp only [cond1_2, k1_cond3, e0, e1]
    word_cmp
   : ∀ t : Fin grid1.N, cond1_2 (grid1.coords t) ↔ t.val % 4 = 3)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- At the points of case A the printed configuration (`Cfg.idle`) calls output 8 idle: the case stores nothing into it. -/
theorem idleAt1_8_A : ∀ t : Fin cfg1.N, cond1_0 (grid1.coords t) → ¬cond1_1 (grid1.coords t) → ¬cond1_2 (grid1.coords t) → cfg1.idle 8 (grid1.coords t) = true := by decide +kernel
/-- At the points of case A the pipeline does not write output 8's block back. -/
theorem noFlush1_8_A : ∀ t : Fin cfg1.N, cond1_0 (grid1.coords t) → ¬cond1_1 (grid1.coords t) → ¬cond1_2 (grid1.coords t) → (cfg1.win 8).flush t = false := by decide +kernel
/-- At the points of case B the printed configuration (`Cfg.idle`) calls output 8 idle: the case stores nothing into it. -/
theorem idleAt1_8_B : ∀ t : Fin cfg1.N, ¬cond1_0 (grid1.coords t) → cond1_1 (grid1.coords t) → ¬cond1_2 (grid1.coords t) → cfg1.idle 8 (grid1.coords t) = true := by decide +kernel
/-- At the points of case B the pipeline does not write output 8's block back. -/
theorem noFlush1_8_B : ∀ t : Fin cfg1.N, ¬cond1_0 (grid1.coords t) → cond1_1 (grid1.coords t) → ¬cond1_2 (grid1.coords t) → (cfg1.win 8).flush t = false := by decide +kernel
/-- At the points of case C the printed configuration (`Cfg.idle`) calls output 8 live: the case stores into it. -/
theorem liveAt1_8_C : ∀ t : Fin cfg1.N, ¬cond1_0 (grid1.coords t) → cond1_1 (grid1.coords t) → cond1_2 (grid1.coords t) → cfg1.idle 8 (grid1.coords t) = false := by decide +kernel

/-! ## The kernel body on any staging memrefs: a subtype the run finds -/

/-- One staging buffer of output window 8, through which its contents are stated (`View.read_writes_of_cover`: the
    choice does not matter). -/
abbrev VO1_8 : View sig .tc .vmem S256x5120 .bf16 := (Memref.whole cc1_stg8_0 : Memref sig .tc .vmem S256x5120 .bf16).view
/-- Each window's current staging memref at point `t`, spelled as the pipeline passes it (`bodyAt1`), and its wholeness. -/
abbrev ms1_0 (t : Fin cfg1.N) : Memref sig .tc .vmem S256x5120 .fp8e4m3 := win1_0.stage (cfg1.slots t 0)
/-- It is a whole buffer. -/
abbrev hs1_0 (t : Fin cfg1.N) : (ms1_0 t).IsWhole := hstage1_0 ((cfg1.slots t 0).cast nbuf1_0)
/-- Window 1's buffer at a point. -/
abbrev ms1_1 (t : Fin cfg1.N) : Memref sig .tc .vmem S256x1 .f32 := win1_1.stage (cfg1.slots t 1)
/-- It is a whole buffer. -/
abbrev hs1_1 (t : Fin cfg1.N) : (ms1_1 t).IsWhole := hstage1_1 ((cfg1.slots t 1).cast nbuf1_1)
/-- Window 2's buffer at a point. -/
abbrev ms1_2 (t : Fin cfg1.N) : Memref sig .tc .vmem S256x2 .i32 := win1_2.stage (cfg1.slots t 2)
/-- It is a whole buffer. -/
abbrev hs1_2 (t : Fin cfg1.N) : (ms1_2 t).IsWhole := hstage1_2 ((cfg1.slots t 2).cast nbuf1_2)
/-- Window 3's buffer at a point. -/
abbrev ms1_3 (t : Fin cfg1.N) : Memref sig .tc .vmem S256x2 .f32 := win1_3.stage (cfg1.slots t 3)
/-- It is a whole buffer. -/
abbrev hs1_3 (t : Fin cfg1.N) : (ms1_3 t).IsWhole := hstage1_3 ((cfg1.slots t 3).cast nbuf1_3)
/-- Window 4's buffer at a point. -/
abbrev ms1_4 (t : Fin cfg1.N) : Memref sig .tc .vmem S1x1536x5120 .fp8e4m3 := win1_4.stage (cfg1.slots t 4)
/-- It is a whole buffer. -/
abbrev hs1_4 (t : Fin cfg1.N) : (ms1_4 t).IsWhole := hstage1_4 ((cfg1.slots t 4).cast nbuf1_4)
/-- Window 5's buffer at a point. -/
abbrev ms1_5 (t : Fin cfg1.N) : Memref sig .tc .vmem S1x1x1536 .f32 := win1_5.stage (cfg1.slots t 5)
/-- It is a whole buffer. -/
abbrev hs1_5 (t : Fin cfg1.N) : (ms1_5 t).IsWhole := hstage1_5 ((cfg1.slots t 5).cast nbuf1_5)
/-- Window 6's buffer at a point. -/
abbrev ms1_6 (t : Fin cfg1.N) : Memref sig .tc .vmem S1x5120x768 .fp8e4m3 := win1_6.stage (cfg1.slots t 6)
/-- It is a whole buffer. -/
abbrev hs1_6 (t : Fin cfg1.N) : (ms1_6 t).IsWhole := hstage1_6 ((cfg1.slots t 6).cast nbuf1_6)
/-- Window 7's buffer at a point. -/
abbrev ms1_7 (t : Fin cfg1.N) : Memref sig .tc .vmem S1x1x5120 .f32 := win1_7.stage (cfg1.slots t 7)
/-- It is a whole buffer. -/
abbrev hs1_7 (t : Fin cfg1.N) : (ms1_7 t).IsWhole := hstage1_7 ((cfg1.slots t 7).cast nbuf1_7)
/-- Window 8's buffer at a point. -/
abbrev ms1_8 (t : Fin cfg1.N) : Memref sig .tc .vmem S256x5120 .bf16 := win1_8.stage (cfg1.slots t 8)
/-- It is a whole buffer. -/
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S256x5120 .f32 := Memref.whole cc1_scratch0
/-- The scratch `arg11` the kernel carries between points, as a view: what it holds is stated through it. -/
abbrev VS1_0 : View sig .tc .vmem S256x5120 .f32 := scM1_0.view

/-- What the second call's body never touches: the first call's staging buffers at anything and the generator register
    at some state. -/
def others1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ r, prngReg c r))

/-- The invariant before the first point: the accumulator at anything, beside what the body never touches. -/
theorem PhiA1_eq (c : Dev nD) :
    (Pipeline.ΦA spec1 c : sProp 𝕄)
      = iprop(iprop((∃ d, owns (c : Thread nD τ) scM1_0 fullShare d)) ∗ others1 c) := by
  unfold Pipeline.ΦA others1; rw [scopedRest1_eq]; simp only [scM1_0, owns_whole]
  refine Idealize.SL.BI.equiv_iff.mp ⟨(show (_ : sProp 𝕄) ⊢ _ from ?_), (show (_ : sProp 𝕄) ⊢ _ from ?_)⟩
  · iintro ⟨⟨H0, H1, H2, H3, H4, H5, HS⟩, Hg⟩
    isplitl [HS]; · iexact HS
    isplitr [Hg]
    · isplitl [H0]; · iexact H0
      isplitl [H1]; · iexact H1
      isplitl [H2]; · iexact H2
      isplitl [H3]; · iexact H3
      isplitl [H4]; · iexact H4
      iexact H5
    iexact Hg
  · iintro ⟨HS, ⟨H0, H1, H2, H3, H4, H5⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      iexact HS
    iexact Hg

end Cert.Kernel.Run

end
-- ==== Proof.Kernel.MoeRunA.lean ====
/- The body of the second kernel call, run at expert 0: the accumulator is overwritten. -/
module

public import proofs.«01_k».proof.Proof.Kernel.MoeRuns

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 4, … 124: 32 of 128), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : cond1_0 i) (hc1 : ¬cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) :
    Σ' (L8 : List (View.Piece (Elt F) S256x5120 .bf16)), { LS0 : List (View.Piece (Elt F) S256x5120 .f32) //
      ∀ (xi8 : Vec F S256x5120 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1_moe i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1_moe_eq_skeleton]; unfold cc1_moe_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Run

end
-- ==== Proof.Kernel.MoeRunB.lean ====
/- The body of the second kernel call, run at experts 1 and 2: the accumulator is added to. -/
module

public import proofs.«01_k».proof.Proof.Kernel.MoeRunA

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 126: 64 of 128), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) :
    Σ' (L8 : List (View.Piece (Elt F) S256x5120 .bf16)), { LS0 : List (View.Piece (Elt F) S256x5120 .f32) //
      ∀ (xi8 : Vec F S256x5120 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1_moe i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1_moe_eq_skeleton]; unfold cc1_moe_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.Kernel.Run

end
-- ==== Proof.Kernel.MoeRunC.lean ====
/- The body of the second kernel call, run at expert 3: the accumulator is added to and written out. -/
module

public import proofs.«01_k».proof.Proof.Kernel.MoeRunB

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 3, 7, … 127: 32 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) :
    Σ' (L8 : List (View.Piece (Elt F) S256x5120 .bf16)), { LS0 : List (View.Piece (Elt F) S256x5120 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1_moe i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_moe_eq_skeleton]; unfold cc1_moe_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.Kernel.Run

end
-- ==== Proof.Kernel.MoeBody.lean ====
/- The second kernel call: what its output block and its accumulator hold after each grid point, and its body obligation. -/
module

public import proofs.«01_k».proof.Proof.Kernel.MoeRunC

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 8 (the window is idle at its points and not written back there):
    no pieces — a placeholder (junk read back) that nothing consults, since at these points the window is neither
    written back nor read at the next point (Lib/Pipeline.lean "Idle points"). -/
def out1_A_8 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : cond1_0 i) (hc1 : ¬cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) : Vec F S256x5120 .bf16 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 hc2 x0 x1 x2 x3 x4 x5 x6 x7).1)

/-- Case A's pieces for scratch `arg11`, which the kernel carries between points, cover it: 1 piece of `S256x5120` tiling it (Lib/Ring.lean `Piece.tiledL`). -/
theorem scover1_A_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : cond1_0 i) (hc1 : ¬cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (y : S256x5120.Idx) :
    ∃ pc ∈ (kernelRun1_A c i arg2 harg2 arg3 harg3 arg4 harg4 arg5 harg5 arg6 harg6 arg7 harg7 arg8 harg8 arg9 harg9 arg10 harg10 arg11 harg11 hc0 hc1 hc2 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 hc2 x0 x1 x2 x3 x4 x5 x6 x7).2.1 S256x5120.size (by sl_kernel_rfl) y

/-- What case A leaves in scratch `arg11`: its pieces read back over junk. -/
def sout1_A_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : cond1_0 i) (hc1 : ¬cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) : Vec F S256x5120 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 hc2 x0 x1 x2 x3 x4 x5 x6 x7).2.1)

/-- Case B stores nothing into output 8 (the window is idle at its points and not written back there):
    no pieces — a placeholder (junk read back) that nothing consults, since at these points the window is neither
    written back nor read at the next point (Lib/Pipeline.lean "Idle points"). -/
def out1_B_8 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) : Vec F S256x5120 .bf16 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 hc2 x0 x1 x2 x3 x4 x5 x6 x7 xs0).1)

/-- Case B's pieces for scratch `arg11`, which the kernel carries between points, cover it: 1 piece of `S256x5120` tiling it (Lib/Ring.lean `Piece.tiledL`). -/
theorem scover1_B_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) (y : S256x5120.Idx) :
    ∃ pc ∈ (kernelRun1_B c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1 S256x5120.size (by sl_kernel_rfl) y

/-- What case B leaves in scratch `arg11`: its pieces read back over junk. -/
def sout1_B_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) : Vec F S256x5120 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1)

/-- Case C's pieces for output 8 tile its block (1 store of `S256x5120`, checked by the kernel's evaluation: Lib/Ring.lean `Piece.tiledL`, linear in the pieces, through a loop's `@[irreducible]` trip theorem too), so they cover it. -/
theorem cover1_C_8 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) (y : S256x5120.Idx) :
    ∃ pc ∈ (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).1 S256x5120.size (by sl_kernel_rfl) y

/-- What case C leaves in output 8's staging buffer: its pieces read back over junk. -/
def out1_C_8 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) : Vec F S256x5120 .bf16 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).1)

/-- Case C's pieces for scratch `arg11`, which the kernel carries between points, cover it: 1 piece of `S256x5120` tiling it (Lib/Ring.lean `Piece.tiledL`). -/
theorem scover1_C_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) (y : S256x5120.Idx) :
    ∃ pc ∈ (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1 S256x5120.size (by sl_kernel_rfl) y

/-- What case C leaves in scratch `arg11`: its pieces read back over junk. -/
def sout1_C_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) : Vec F S256x5120 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x5120 .bf16 × Vec F S256x5120 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 4 = 0 then
      if h1 : 1 ≤ (n + 1) % 4 then
        False.elim (by have hN : n + 1 < 128 := lt_of_lt_of_eq hn (show cfg1.N = 128 from N_1); omega)
      else
        if h2 : (n + 1) % 4 = 3 then
          False.elim (by have hN : n + 1 < 128 := lt_of_lt_of_eq hn (show cfg1.N = 128 from N_1); omega)
        else
          (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : 1 ≤ (n + 1) % 4 then
        if h2 : (n + 1) % 4 = 3 then
          (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
        else
          (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        False.elim (by have hN : n + 1 < 128 := lt_of_lt_of_eq hn (show cfg1.N = 128 from N_1); omega)

/-- `outsAt1` at a point of case A: that case's contents. -/
theorem outsAt1_A (c : Dev nD) (t : Fin cfg1.N) (h0 : t.val % 4 = 0) (h1 : ¬1 ≤ t.val % 4) (h2 : ¬t.val % 4 = 3) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans ((dif_neg h2).trans rfl))

/-- `outsAt1` at a point of case B: that case's contents, over what the point before left. -/
theorem outsAt1_B (c : Dev nD) (t : Fin cfg1.N) (h0 : ¬t.val % 4 = 0) (h1 : 1 ≤ t.val % 4) (h2 : ¬t.val % 4 = 3) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C: that case's contents, over what the point before left. -/
theorem outsAt1_C (c : Dev nD) (t : Fin cfg1.N) (h0 : ¬t.val % 4 = 0) (h1 : 1 ≤ t.val % 4) (h2 : t.val % 4 = 3) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ others1 c)

/-- Before the first point nothing is known of the accumulator. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2)) ∗ others1 c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ others1 c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
/-- What the body leaves in window 1. -/
theorem after1_1 (c : Dev nD) (t : Fin cfg1.N) : (dat1 V c).after 1 t = iblk1 V c 1 t := by dsimp only [dat1]
/-- What the body leaves in window 2. -/
theorem after1_2 (c : Dev nD) (t : Fin cfg1.N) : (dat1 V c).after 2 t = iblk1 V c 2 t := by dsimp only [dat1]
/-- What the body leaves in window 3. -/
theorem after1_3 (c : Dev nD) (t : Fin cfg1.N) : (dat1 V c).after 3 t = iblk1 V c 3 t := by dsimp only [dat1]
/-- What the body leaves in window 4. -/
theorem after1_4 (c : Dev nD) (t : Fin cfg1.N) : (dat1 V c).after 4 t = iblk1 V c 4 t := by dsimp only [dat1]
/-- What the body leaves in window 5. -/
theorem after1_5 (c : Dev nD) (t : Fin cfg1.N) : (dat1 V c).after 5 t = iblk1 V c 5 t := by dsimp only [dat1]
/-- What the body leaves in window 6. -/
theorem after1_6 (c : Dev nD) (t : Fin cfg1.N) : (dat1 V c).after 6 t = iblk1 V c 6 t := by dsimp only [dat1]
/-- What the body leaves in window 7. -/
theorem after1_7 (c : Dev nD) (t : Fin cfg1.N) : (dat1 V c).after 7 t = iblk1 V c 7 t := by dsimp only [dat1]
/-- What the body leaves in window 8. -/
theorem after1_8 (c : Dev nD) (t : Fin cfg1.N) : (dat1 V c).after 8 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body finds in window 1. -/
theorem before1_1 (c : Dev nD) (t : Fin cfg1.N) (d) : (dat1 V c).before 1 t d = iblk1 V c 1 t :=
  before1_1_of V (dat1 V c) (A_eq1 V c 1) (after1_1 V c) t d
/-- What the body finds in window 2. -/
theorem before1_2 (c : Dev nD) (t : Fin cfg1.N) (d) : (dat1 V c).before 2 t d = iblk1 V c 2 t :=
  before1_2_of V (dat1 V c) (A_eq1 V c 2) (after1_2 V c) t d
/-- What the body finds in window 3. -/
theorem before1_3 (c : Dev nD) (t : Fin cfg1.N) (d) : (dat1 V c).before 3 t d = iblk1 V c 3 t :=
  before1_3_of V (dat1 V c) (A_eq1 V c 3) (after1_3 V c) t d
/-- What the body finds in window 4. -/
theorem before1_4 (c : Dev nD) (t : Fin cfg1.N) (d) : (dat1 V c).before 4 t d = iblk1 V c 4 t :=
  before1_4_of V (dat1 V c) (A_eq1 V c 4) (after1_4 V c) t d
/-- What the body finds in window 5. -/
theorem before1_5 (c : Dev nD) (t : Fin cfg1.N) (d) : (dat1 V c).before 5 t d = iblk1 V c 5 t :=
  before1_5_of V (dat1 V c) (A_eq1 V c 5) (after1_5 V c) t d
/-- What the body finds in window 6. -/
theorem before1_6 (c : Dev nD) (t : Fin cfg1.N) (d) : (dat1 V c).before 6 t d = iblk1 V c 6 t :=
  before1_6_of V (dat1 V c) (A_eq1 V c 6) (after1_6 V c) t d
/-- What the body finds in window 7. -/
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : 1 ≤ t.val % 4
    · exfalso; omega
    · by_cases h2 : t.val % 4 = 3
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [show (dat1 V c).leavesExact 7 t = owns (c : Thread nD τ) (ms1_7 t) fullShare ((dat1 V c).after 7 t) from by
      unfold Dat.leavesExact; rw [liveAt1_7 t], after1_7]
        rw [Dat.leavesExact_idle (dat1 V c) 8 t (idleAt1_8_A t ((hcond1_0 t).mpr h0) (fun h => h1 ((hcond1_1 t).mp h)) (fun h => h2 ((hcond1_2 t).mp h))) (noFlush1_8_A t ((hcond1_0 t).mpr h0) (fun h => h1 ((hcond1_1 t).mp h)) (fun h => h2 ((hcond1_2 t).mp h)))]
        by_cases hz : t.val = 0
        · rw [PhiS_castSucc V c t, PhiS_zero V c _ _ hz, PhiA1_eq]
          rw [outsAt1_A V c t h0 h1 h2]
          unfold sout1_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun1_A c (grid1.coords t) _ _ _ _ _ _ _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          iintro ⟨H0, H1, H2, H3, H4, H5, H6, H7, H8, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
        · rw [PhiS_castSucc V c t, PhiS_pos V c _ _ hz]
          rw [outsAt1_A V c t h0 h1 h2]
          unfold sout1_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun1_A c (grid1.coords t) _ _ _ _ _ _ _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexists _; iexact HS0
          iintro ⟨H0, H1, H2, H3, H4, H5, H6, H7, H8, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
  · by_cases h1 : 1 ≤ t.val % 4
    · by_cases h2 : t.val % 4 = 3
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [show (dat1 V c).leavesExact 7 t = owns (c : Thread nD τ) (ms1_7 t) fullShare ((dat1 V c).after 7 t) from by
      unfold Dat.leavesExact; rw [liveAt1_7 t], after1_7]
        rw [show (dat1 V c).leavesExact 8 t = owns (c : Thread nD τ) (ms1_8 t) fullShare ((dat1 V c).after 8 t) from by
      unfold Dat.leavesExact; rw [liveAt1_8_C t (fun h => h0 ((hcond1_0 t).mp h)) ((hcond1_1 t).mpr h1) ((hcond1_2 t).mpr h2)], after1_8]
        by_cases hz : t.val = 0
        · exfalso; have hN : t.val < 128 := lt_of_lt_of_eq t.isLt (show cfg1.N = 128 from N_1); omega
        · rw [PhiS_castSucc V c t, PhiS_pos V c _ _ hz]
          rw [outsAt1_C V c t h0 h1 h2]
          unfold out1_C_8 sout1_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun1_C c (grid1.coords t) _ _ _ _ _ _ _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) (iblk1 V c 6 t) (iblk1 V c 7 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          iintro ⟨H0, H1, H2, H3, H4, H5, H6, H7, ⟨%e8, H8⟩, ⟨%es0, HS0⟩⟩
          isplitl [HS0 Hg]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr
          swap; · iexact H8
          ipureintro; exact View.read_writes_of_cover _ _ _ _ _ (cover1_C_8 c _ _ _ _ _ _ _ _ _ _ _ _ _ _ _ _ _ _ _ _ _ _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [show (dat1 V c).leavesExact 7 t = owns (c : Thread nD τ) (ms1_7 t) fullShare ((dat1 V c).after 7 t) from by
      unfold Dat.leavesExact; rw [liveAt1_7 t], after1_7]
        rw [Dat.leavesExact_idle (dat1 V c) 8 t (idleAt1_8_B t (fun h => h0 ((hcond1_0 t).mp h)) ((hcond1_1 t).mpr h1) (fun h => h2 ((hcond1_2 t).mp h))) (noFlush1_8_B t (fun h => h0 ((hcond1_0 t).mp h)) ((hcond1_1 t).mpr h1) (fun h => h2 ((hcond1_2 t).mp h)))]
        by_cases hz : t.val = 0
        · exfalso; have hN : t.val < 128 := lt_of_lt_of_eq t.isLt (show cfg1.N = 128 from N_1); omega
        · rw [PhiS_castSucc V c t, PhiS_pos V c _ _ hz]
          rw [outsAt1_B V c t h0 h1 h2]
          unfold sout1_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun1_B c (grid1.coords t) _ _ _ _ _ _ _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          iintro ⟨H0, H1, H2, H3, H4, H5, H6, H7, H8, ⟨%es0, HS0⟩⟩
          isplitl [HS0 Hg]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out V c _ (by rw [Fin.val_last]; have : cfg1.N = 128 := N_1; omega)

end Cert.Kernel.Run

end
-- ==== Proof.Kernel.Launch.lean ====
/- The two kernel calls and the reshapes around them, run one after another: every argument ends as it was, and every
   buffer holds what the last boundary says. -/
module

public import proofs.«01_k».proof.Proof.Kernel.QuantBody
public import proofs.«01_k».proof.Proof.Kernel.MoeBody
public import Idealize.ShloMosaic.Lib.Pipeline.Frame
public import Idealize.ShloMosaic.Lib.Pipeline.Regions

@[expose] public section

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- The buffers these host operations write. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4, main_v5]
/-- The buffers these host operations write. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8, main_v9]
/-- The buffers these host operations write. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments hold what they held at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments hold what they held at the start. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- A window's array holds what the call leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no window's array holds what it held before. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments hold what they held at the start. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The call changes no other buffer. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments hold what they held at the start. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- A window's array holds what the call leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is no window's array holds what it held before. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments hold what they held at the start. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The call changes no other buffer. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments hold what they held at the start. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- The argument ends as it started. -/
theorem W5_main_arg0 (c : Dev nD) : W5 m ρ c (Proc.devRef .tc main_arg0) = m ((c : Thread nD τ).loc main_arg0) :=
  W5_args m ρ c main_arg0 (by decide)
/-- The argument ends as it started. -/
theorem W5_main_arg1 (c : Dev nD) : W5 m ρ c (Proc.devRef .tc main_arg1) = m ((c : Thread nD τ).loc main_arg1) :=
  W5_args m ρ c main_arg1 (by decide)
/-- The argument ends as it started. -/
theorem W5_main_arg2 (c : Dev nD) : W5 m ρ c (Proc.devRef .tc main_arg2) = m ((c : Thread nD τ).loc main_arg2) :=
  W5_args m ρ c main_arg2 (by decide)
/-- The argument ends as it started. -/
theorem W5_main_arg3 (c : Dev nD) : W5 m ρ c (Proc.devRef .tc main_arg3) = m ((c : Thread nD τ).loc main_arg3) :=
  W5_args m ρ c main_arg3 (by decide)
/-- The argument ends as it started. -/
theorem W5_main_arg4 (c : Dev nD) : W5 m ρ c (Proc.devRef .tc main_arg4) = m ((c : Thread nD τ).loc main_arg4) :=
  W5_args m ρ c main_arg4 (by decide)
/-- The argument ends as it started. -/
theorem W5_main_arg5 (c : Dev nD) : W5 m ρ c (Proc.devRef .tc main_arg5) = m ((c : Thread nD τ).loc main_arg5) :=
  W5_args m ρ c main_arg5 (by decide)
/-- The argument ends as it started. -/
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No loop variants are needed. -/
abbrev 𝒱₀ : Variants := Variants.none
/-- No core owes another anything: no level is assigned. -/
abbrev L : GSem nD τ sig → Finset Unit := fun _ => ∅
/-- Every semaphore has level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from
      (show (pdats m ρ 1 c).Φ 0 = PhiS (V3 m ρ) c 0 (Nat.zero_le _) from rfl).trans (PhiS_zero (V3 m ρ) c 0 _ rfl)]
    unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every fair execution ends, with every buffer that no call scopes at what
    the last boundary holds and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every argument ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩, h.2⟩) (run_all m ρ)

/-- THE VALUES: the three results end at what the last boundary holds, and every argument as it was. -/
theorem run_values : θ_run defs (onTc (τ := τ) (main (F := F))) ⟨m, fun _ => 0, ρ⟩ (fun r => ∀ c : Dev nD,
      r.2.mem ((c.tc : Thread nD τ).loc main_v7) = W5 m ρ c main_v7
      ∧ r.2.mem ((c.tc : Thread nD τ).loc main_v8) = W5 m ρ c main_v8
      ∧ r.2.mem ((c.tc : Thread nD τ).loc main_v9) = W5 m ρ c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h.1 c _ (mem_uc main_v7 (by decide)), h.1 c _ (mem_uc main_v8 (by decide)), h.1 c _ (mem_uc main_v9 (by decide)), (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩) (run_all m ρ)

end Cert.Kernel.Run

end
-- ==== Proof.KernelIdeal.QuantBody.lean ====
/- The first kernel call (quantising the rows): what its output blocks hold after each grid point, and its body obligation. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameSuffix
public import Idealize.ShloMosaic.Lib.UnfoldOut
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # REGION 0 of @main: custom_call 0, `cc0_quant` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- A whole block. -/
abbrev r0_0 : Rect S256x5120 := Rect.unit (s := S256x5120) ![0, 0] S256x5120.size inb_S256x5120_S256x5120_0_0
/-- A whole block. -/
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay8` …, after `k0_pay7`), so that
    `out0_W` and the values after it name it instead of spelling it out; the comment after each is the printed function's
    name for the value (a count appended where that name is bound again). -/

/-- The exponents found. -/
def k0_pay8 (x0 : Vec F S256x5120 .bf16) : IVec S256x1 32 :=
  k0_pay7 (k0_pay4 (View.ld x0 r0_0)) (k0_pay5 (View.ld x0 r0_0)) (k0_pay6 (View.ld x0 r0_0)) 16#32 -- `v86`

/-- Window 1's staging buffer after the body, from the input windows' blocks: its 1 store as pieces, LAST
    FIRST (Lib/Pipeline/FrameBody.lean `View.canon`; the payloads are the skeleton's and the values stated above). -/
def out0_1 (x0 : Vec F S256x5120 .bf16) : Vec F S256x5120 .fp8e4m3 :=
  View.canon [⟨r0_0, k0_pay2 (k0_pay3 (View.ld x0 r0_0)) (k0_pay8 x0)⟩]

/-- Its stores tile the buffer (checked by evaluation), so they cover it. -/
theorem cover0_1 (p0 : Vec F S256x5120 .fp8e4m3) (y : S256x5120.Idx) :
    ∃ pc ∈ ([⟨r0_0, p0⟩] : List (View.Piece (Elt F) S256x5120 .fp8e4m3)), y ∈ pc.1.set :=
  View.cover_of_tiled [⟨r0_0, p0⟩] S256x5120.size (by rfl) y

/-- Window 2's staging buffer after the body, from the input windows' blocks: its 1 store as pieces, LAST
    FIRST (Lib/Pipeline/FrameBody.lean `View.canon`; the payloads are the skeleton's and the values stated above). -/
def out0_2 (x0 : Vec F S256x5120 .bf16) : Vec F S256x1 .f32 :=
  View.canon [⟨r0_1, k0_pay1 (F := F) (k0_pay8 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x5120 .bf16) (harg1 : arg1.IsWhole) (arg2 : Memref sig .tc .vmem S256x5120 .fp8e4m3) (harg2 : arg2.IsWhole) (arg3 : Memref sig .tc .vmem S256x1 .f32) (harg3 : arg3.IsWhole)
    (x0 : Vec F S256x5120 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant i arg1 harg1 arg2 harg2 arg3 harg3) K := by
  simp only [cc0_quant_eq_skeleton]; unfold cc0_quant_skel
  simp only [k0_part1_eq_skeleton, k0_part2_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
/-- What the body leaves in window 1. -/
theorem after0_1 (c : Dev nD) (t : Fin cfg0.N) : (dat0 V c).after 1 t = out0_1 (iblk0 V c 0 t) := by dsimp only [dat0]
/-- What the body leaves in window 2. -/
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdeal.MoeRuns.lean ====
/- The second kernel call (the experts) on any staging buffers: its blocks, its branch conditions over the grid and
   where its output window is idle. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.RegionsLoop
public import Idealize.ShloMosaic.Lib.Pipeline.FrameSuffix
public import Idealize.ShloMosaic.Lib.UnfoldOut
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 4) — by arithmetic of the point. -/
theorem hcond1_0 : ∀ t : Fin cfg1.N, cond1_0 (grid1.coords t) ↔ t.val % 4 = 0 :=
  (fun t => by
    have ht : t.val < 128 := Nat.lt_of_lt_of_eq t.isLt N_1
    have e0 : (grid1.coords t 0).val = t.val / 4 % 32 := Pipeline.Grid.coords_val t 0 (by decide) rfl
    have e1 : (grid1.coords t 1).val = t.val / 1 % 4 := Pipeline.Grid.coords_val t 1 (by decide) rfl
    simp only [cond1_0, e0, e1]
    word_cmp
   : ∀ t : Fin grid1.N, cond1_0 (grid1.coords t) ↔ t.val % 4 = 0)

/-- The condition of the body's `scf.if` 1 (`k1_h2`), from the grid coordinates (the skeleton's scalar
    chain substituted). -/
abbrev cond1_1 (i : grid1.Coords) : Prop := (Scalar.cmpi .ne (Scalar.extui (Scalar.cmpi .sgt (BitVec.ofNat 32 (i 1).val) 0#32)) 0#32) = 1#1
/-- It holds at the points whose coordinates have 1 ≤ i1 — decided over the grid. -/
theorem hcond1_1 : ∀ t : Fin cfg1.N, cond1_1 (grid1.coords t) ↔ 1 ≤ t.val % 4 :=
  (by decide +kernel : ∀ t : Fin grid1.N, cond1_1 (grid1.coords t) ↔ 1 ≤ t.val % 4)

/-- The condition of the body's `scf.if` 2 (`k1_h3`), from the grid coordinates (the skeleton's scalar
    chain substituted). -/
abbrev cond1_2 (i : grid1.Coords) : Prop := k1_cond3 i = 1#1
/-- It holds at the points ≡ 3 (mod 4) — by arithmetic of the point. -/
theorem hcond1_2 : ∀ t : Fin cfg1.N, cond1_2 (grid1.coords t) ↔ t.val % 4 = 3 :=
  (fun t => by
    have ht : t.val < 128 := Nat.lt_of_lt_of_eq t.isLt N_1
    have e0 : (grid1.coords t 0).val = t.val / 4 % 32 := Pipeline.Grid.coords_val t 0 (by decide) rfl
    have e1 : (grid1.coords t 1).val = t.val / 1 % 4 := Pipeline.Grid.coords_val t 1 (by decide) rfl
    simp only [cond1_2, k1_cond3, e0, e1]
    word_cmp
   : ∀ t : Fin grid1.N, cond1_2 (grid1.coords t) ↔ t.val % 4 = 3)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- Window 3 is never idle (an input). -/
theorem liveAt1_3 : ∀ t : Fin cfg1.N, cfg1.idle 3 (grid1.coords t) = false := fun _ => rfl
/-- Window 4 is never idle (an input). -/
theorem liveAt1_4 : ∀ t : Fin cfg1.N, cfg1.idle 4 (grid1.coords t) = false := fun _ => rfl
/-- Window 5 is never idle (an input). -/
theorem liveAt1_5 : ∀ t : Fin cfg1.N, cfg1.idle 5 (grid1.coords t) = false := fun _ => rfl
/-- Window 6 is never idle (an input). -/
theorem liveAt1_6 : ∀ t : Fin cfg1.N, cfg1.idle 6 (grid1.coords t) = false := fun _ => rfl
/-- Window 7 is never idle (an input). -/
theorem liveAt1_7 : ∀ t : Fin cfg1.N, cfg1.idle 7 (grid1.coords t) = false := fun _ => rfl
/-- At the points of case A the printed configuration (`Cfg.idle`) calls output 8 idle: the case stores nothing into it. -/
theorem idleAt1_8_A : ∀ t : Fin cfg1.N, cond1_0 (grid1.coords t) → ¬cond1_1 (grid1.coords t) → ¬cond1_2 (grid1.coords t) → cfg1.idle 8 (grid1.coords t) = true := by decide +kernel
/-- At the points of case A the pipeline does not write output 8's block back. -/
theorem noFlush1_8_A : ∀ t : Fin cfg1.N, cond1_0 (grid1.coords t) → ¬cond1_1 (grid1.coords t) → ¬cond1_2 (grid1.coords t) → (cfg1.win 8).flush t = false := by decide +kernel
/-- At the points of case B the printed configuration (`Cfg.idle`) calls output 8 idle: the case stores nothing into it. -/
theorem idleAt1_8_B : ∀ t : Fin cfg1.N, ¬cond1_0 (grid1.coords t) → cond1_1 (grid1.coords t) → ¬cond1_2 (grid1.coords t) → cfg1.idle 8 (grid1.coords t) = true := by decide +kernel
/-- At the points of case B the pipeline does not write output 8's block back. -/
theorem noFlush1_8_B : ∀ t : Fin cfg1.N, ¬cond1_0 (grid1.coords t) → cond1_1 (grid1.coords t) → ¬cond1_2 (grid1.coords t) → (cfg1.win 8).flush t = false := by decide +kernel
/-- At the points of case C the printed configuration (`Cfg.idle`) calls output 8 live: the case stores into it. -/
theorem liveAt1_8_C : ∀ t : Fin cfg1.N, ¬cond1_0 (grid1.coords t) → cond1_1 (grid1.coords t) → cond1_2 (grid1.coords t) → cfg1.idle 8 (grid1.coords t) = false := by decide +kernel

/-! ## The kernel body on any staging memrefs: a subtype the run finds -/

/-- One staging buffer of output window 8, through which its contents are stated (`View.read_writes_of_cover`: the
    choice does not matter). -/
abbrev VO1_8 : View sig .tc .vmem S256x5120 .bf16 := (Memref.whole cc1_stg8_0 : Memref sig .tc .vmem S256x5120 .bf16).view
/-- Each window's current staging memref at point `t`, spelled as the pipeline passes it (`bodyAt1`), and its wholeness. -/
abbrev ms1_0 (t : Fin cfg1.N) : Memref sig .tc .vmem S256x5120 .fp8e4m3 := win1_0.stage (cfg1.slots t 0)
/-- It is a whole buffer. -/
abbrev hs1_0 (t : Fin cfg1.N) : (ms1_0 t).IsWhole := hstage1_0 ((cfg1.slots t 0).cast nbuf1_0)
/-- Window 1's buffer at a point. -/
abbrev ms1_1 (t : Fin cfg1.N) : Memref sig .tc .vmem S256x1 .f32 := win1_1.stage (cfg1.slots t 1)
/-- It is a whole buffer. -/
abbrev hs1_1 (t : Fin cfg1.N) : (ms1_1 t).IsWhole := hstage1_1 ((cfg1.slots t 1).cast nbuf1_1)
/-- Window 2's buffer at a point. -/
abbrev ms1_2 (t : Fin cfg1.N) : Memref sig .tc .vmem S256x2 .i32 := win1_2.stage (cfg1.slots t 2)
/-- It is a whole buffer. -/
abbrev hs1_2 (t : Fin cfg1.N) : (ms1_2 t).IsWhole := hstage1_2 ((cfg1.slots t 2).cast nbuf1_2)
/-- Window 3's buffer at a point. -/
abbrev ms1_3 (t : Fin cfg1.N) : Memref sig .tc .vmem S256x2 .f32 := win1_3.stage (cfg1.slots t 3)
/-- It is a whole buffer. -/
abbrev hs1_3 (t : Fin cfg1.N) : (ms1_3 t).IsWhole := hstage1_3 ((cfg1.slots t 3).cast nbuf1_3)
/-- Window 4's buffer at a point. -/
abbrev ms1_4 (t : Fin cfg1.N) : Memref sig .tc .vmem S1x1536x5120 .fp8e4m3 := win1_4.stage (cfg1.slots t 4)
/-- It is a whole buffer. -/
abbrev hs1_4 (t : Fin cfg1.N) : (ms1_4 t).IsWhole := hstage1_4 ((cfg1.slots t 4).cast nbuf1_4)
/-- Window 5's buffer at a point. -/
abbrev ms1_5 (t : Fin cfg1.N) : Memref sig .tc .vmem S1x1x1536 .f32 := win1_5.stage (cfg1.slots t 5)
/-- It is a whole buffer. -/
abbrev hs1_5 (t : Fin cfg1.N) : (ms1_5 t).IsWhole := hstage1_5 ((cfg1.slots t 5).cast nbuf1_5)
/-- Window 6's buffer at a point. -/
abbrev ms1_6 (t : Fin cfg1.N) : Memref sig .tc .vmem S1x5120x768 .fp8e4m3 := win1_6.stage (cfg1.slots t 6)
/-- It is a whole buffer. -/
abbrev hs1_6 (t : Fin cfg1.N) : (ms1_6 t).IsWhole := hstage1_6 ((cfg1.slots t 6).cast nbuf1_6)
/-- Window 7's buffer at a point. -/
abbrev ms1_7 (t : Fin cfg1.N) : Memref sig .tc .vmem S1x1x5120 .f32 := win1_7.stage (cfg1.slots t 7)
/-- It is a whole buffer. -/
abbrev hs1_7 (t : Fin cfg1.N) : (ms1_7 t).IsWhole := hstage1_7 ((cfg1.slots t 7).cast nbuf1_7)
/-- Window 8's buffer at a point. -/
abbrev ms1_8 (t : Fin cfg1.N) : Memref sig .tc .vmem S256x5120 .bf16 := win1_8.stage (cfg1.slots t 8)
/-- It is a whole buffer. -/
abbrev hs1_8 (t : Fin cfg1.N) : (ms1_8 t).IsWhole := hstage1_8 ((cfg1.slots t 8).cast nbuf1_8)
/-- The scratch operands: whole scoped buffers of the kernel's own, passed beside the windows. -/
abbrev scM1_0 : Memref sig .tc .vmem S256x5120 .f32 := Memref.whole cc1_scratch0
/-- The scratch `arg11` the kernel carries between points, as a view: what it holds is stated through it. -/
abbrev VS1_0 : View sig .tc .vmem S256x5120 .f32 := scM1_0.view

/-- What the second call's body never touches: the first call's staging buffers at anything and the generator register
    at some state. -/
def others1 (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f)) ∗ (∃ r, prngReg c r))

/-- The invariant before the first point: the accumulator at anything, beside what the body never touches. -/
theorem PhiA1_eq (c : Dev nD) :
    (Pipeline.ΦA spec1 c : sProp 𝕄)
      = iprop(iprop((∃ d, owns (c : Thread nD τ) scM1_0 fullShare d)) ∗ others1 c) := by
  unfold Pipeline.ΦA others1; rw [scopedRest1_eq]; simp only [scM1_0, owns_whole]
  refine Idealize.SL.BI.equiv_iff.mp ⟨(show (_ : sProp 𝕄) ⊢ _ from ?_), (show (_ : sProp 𝕄) ⊢ _ from ?_)⟩
  · iintro ⟨⟨H0, H1, H2, H3, H4, H5, HS⟩, Hg⟩
    isplitl [HS]; · iexact HS
    isplitr [Hg]
    · isplitl [H0]; · iexact H0
      isplitl [H1]; · iexact H1
      isplitl [H2]; · iexact H2
      isplitl [H3]; · iexact H3
      isplitl [H4]; · iexact H4
      iexact H5
    iexact Hg
  · iintro ⟨HS, ⟨H0, H1, H2, H3, H4, H5⟩, Hg⟩
    isplitr [Hg]
    · isplitl [H0]; · iexact H0
      isplitl [H1]; · iexact H1
      isplitl [H2]; · iexact H2
      isplitl [H3]; · iexact H3
      isplitl [H4]; · iexact H4
      isplitl [H5]; · iexact H5
      iexact HS
    iexact Hg

end Cert.KernelIdeal.Run

end
-- ==== Proof.KernelIdeal.MoeRunA.lean ====
/- The body of the second kernel call, run at expert 0: the accumulator is overwritten. -/
module

public import proofs.«01_k».proof.Proof.KernelIdeal.MoeRuns

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE A (`scf.if` 0 taken, `scf.if` 1 not taken, `scf.if` 2 not taken: points 0, 4, … 124: 32 of 128), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : cond1_0 i) (hc1 : ¬cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) :
    Σ' (L8 : List (View.Piece (Elt F) S256x5120 .bf16)), { LS0 : List (View.Piece (Elt F) S256x5120 .f32) //
      ∀ (xi8 : Vec F S256x5120 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1_moe i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1_moe_eq_skeleton]; unfold cc1_moe_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Run

end
-- ==== Proof.KernelIdeal.MoeRunB.lean ====
/- The body of the second kernel call, run at experts 1 and 2: the accumulator is added to. -/
module

public import proofs.«01_k».proof.Proof.KernelIdeal.MoeRunA

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE B (`scf.if` 0 not taken, `scf.if` 1 taken, `scf.if` 2 not taken: points 1, 2, … 126: 64 of 128), WITH the
    proof that on whole staging memrefs — the inputs' at their contents, the outputs it leaves idle (8: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) :
    Σ' (L8 : List (View.Piece (Elt F) S256x5120 .bf16)), { LS0 : List (View.Piece (Elt F) S256x5120 .f32) //
      ∀ (xi8 : Vec F S256x5120 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS0)) -∗ K ⟨⟩))
          ⊢ wp frame (wpE (defs₀ (F := F)) Variants.none c none) E (cc1_moe i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1_moe_eq_skeleton]; unfold cc1_moe_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS0

end Cert.KernelIdeal.Run

end
-- ==== Proof.KernelIdeal.MoeRunC.lean ====
/- The body of the second kernel call, run at expert 3: the accumulator is added to and written out. -/
module

public import proofs.«01_k».proof.Proof.KernelIdeal.MoeRunB

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

-- (the run's proof term is large: the definition's epilogue — `abstractNestedProofs` — walks it past the default budget)
set_option maxHeartbeats 1000000 in
/-- What the body's stores leave in each output's staging memref, as pieces (last first) IN CASE C (`scf.if` 0 not taken, `scf.if` 1 taken, `scf.if` 2 taken: points 3, 7, … 127: 32 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) :
    Σ' (L8 : List (View.Piece (Elt F) S256x5120 .bf16)), { LS0 : List (View.Piece (Elt F) S256x5120 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0)) -∗ K ⟨⟩))
          ⊢ wp frame (wpE (defs₀ (F := F)) Variants.none c none) E (cc1_moe i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1_moe_eq_skeleton]; unfold cc1_moe_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS0

end Cert.KernelIdeal.Run

end
-- ==== Proof.KernelIdeal.MoeBody.lean ====
/- The second kernel call: what its output block and its accumulator hold after each grid point, and its body obligation. -/
module

public import proofs.«01_k».proof.Proof.KernelIdeal.MoeRunC

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Case A stores nothing into output 8 (the window is idle at its points and not written back there):
    no pieces — a placeholder (junk read back) that nothing consults, since at these points the window is neither
    written back nor read at the next point (Lib/Pipeline.lean "Idle points"). -/
def out1_A_8 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : cond1_0 i) (hc1 : ¬cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) : Vec F S256x5120 .bf16 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 hc2 x0 x1 x2 x3 x4 x5 x6 x7).1)

/-- Case A's pieces for scratch `arg11`, which the kernel carries between points, cover it: 1 piece of `S256x5120` tiling it (Lib/Ring.lean `Piece.tiledL`). -/
theorem scover1_A_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : cond1_0 i) (hc1 : ¬cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (y : S256x5120.Idx) :
    ∃ pc ∈ (kernelRun1_A c i arg2 harg2 arg3 harg3 arg4 harg4 arg5 harg5 arg6 harg6 arg7 harg7 arg8 harg8 arg9 harg9 arg10 harg10 arg11 harg11 hc0 hc1 hc2 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 hc2 x0 x1 x2 x3 x4 x5 x6 x7).2.1 S256x5120.size (by sl_kernel_rfl) y

/-- What case A leaves in scratch `arg11`: its pieces read back over junk. -/
def sout1_A_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : cond1_0 i) (hc1 : ¬cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) : Vec F S256x5120 .f32 :=
  VS1_0.read (Elt F) (VS1_0.writes (Elt F) VS1_0.junk (kernelRun1_A c i arg2 harg2 arg3 harg3 arg4 harg4 arg5 harg5 arg6 harg6 arg7 harg7 arg8 harg8 arg9 harg9 arg10 harg10 arg11 harg11 hc0 hc1 hc2 x0 x1 x2 x3 x4 x5 x6 x7).2.1)

/-- Case B stores nothing into output 8 (the window is idle at its points and not written back there):
    no pieces — a placeholder (junk read back) that nothing consults, since at these points the window is neither
    written back nor read at the next point (Lib/Pipeline.lean "Idle points"). -/
def out1_B_8 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) : Vec F S256x5120 .bf16 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 hc2 x0 x1 x2 x3 x4 x5 x6 x7 xs0).1)

/-- Case B's pieces for scratch `arg11`, which the kernel carries between points, cover it: 1 piece of `S256x5120` tiling it (Lib/Ring.lean `Piece.tiledL`). -/
theorem scover1_B_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) (y : S256x5120.Idx) :
    ∃ pc ∈ (kernelRun1_B c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1 S256x5120.size (by sl_kernel_rfl) y

/-- What case B leaves in scratch `arg11`: its pieces read back over junk. -/
def sout1_B_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : ¬cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) : Vec F S256x5120 .f32 :=
  VS1_0.read (Elt F) (VS1_0.writes (Elt F) VS1_0.junk (kernelRun1_B c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1)

/-- Case C's pieces for output 8 tile its block (1 store of `S256x5120`, checked by the kernel's evaluation: Lib/Ring.lean `Piece.tiledL`, linear in the pieces, through a loop's `@[irreducible]` trip theorem too), so they cover it. -/
theorem cover1_C_8 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) (y : S256x5120.Idx) :
    ∃ pc ∈ (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).1 S256x5120.size (by sl_kernel_rfl) y

/-- What case C leaves in output 8's staging buffer: its pieces read back over junk. -/
def out1_C_8 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) : Vec F S256x5120 .bf16 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).1)

/-- Case C's pieces for scratch `arg11`, which the kernel carries between points, cover it: 1 piece of `S256x5120` tiling it (Lib/Ring.lean `Piece.tiledL`). -/
theorem scover1_C_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) (y : S256x5120.Idx) :
    ∃ pc ∈ (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1 S256x5120.size (by sl_kernel_rfl) y

/-- What case C leaves in scratch `arg11`: its pieces read back over junk. -/
def sout1_C_0 (c : Dev nD) (i : grid1.Coords) (arg2 : Memref sig .tc .vmem S256x5120 .fp8e4m3) (harg2 : arg2.IsWhole) (arg3 : Memref sig .tc .vmem S256x1 .f32) (harg3 : arg3.IsWhole) (arg4 : Memref sig .tc .vmem S256x2 .i32) (harg4 : arg4.IsWhole) (arg5 : Memref sig .tc .vmem S256x2 .f32) (harg5 : arg5.IsWhole) (arg6 : Memref sig .tc .vmem S1x1536x5120 .fp8e4m3) (harg6 : arg6.IsWhole) (arg7 : Memref sig .tc .vmem S1x1x1536 .f32) (harg7 : arg7.IsWhole) (arg8 : Memref sig .tc .vmem S1x5120x768 .fp8e4m3) (harg8 : arg8.IsWhole) (arg9 : Memref sig .tc .vmem S1x1x5120 .f32) (harg9 : arg9.IsWhole) (arg10 : Memref sig .tc .vmem S256x5120 .bf16) (harg10 : arg10.IsWhole) (arg11 : Memref sig .tc .vmem S256x5120 .f32) (harg11 : arg11.IsWhole) (hc0 : ¬cond1_0 i) (hc1 : cond1_1 i) (hc2 : cond1_2 i)
    (x0 : Vec F S256x5120 .fp8e4m3) (x1 : Vec F S256x1 .f32) (x2 : Vec F S256x2 .i32) (x3 : Vec F S256x2 .f32) (x4 : Vec F S1x1536x5120 .fp8e4m3) (x5 : Vec F S1x1x1536 .f32) (x6 : Vec F S1x5120x768 .fp8e4m3) (x7 : Vec F S1x1x5120 .f32) (xs0 : Vec F S256x5120 .f32) : Vec F S256x5120 .f32 :=
  VS1_0.read (Elt F) (VS1_0.writes (Elt F) VS1_0.junk (kernelRun1_C c i arg2 harg2 arg3 harg3 arg4 harg4 arg5 harg5 arg6 harg6 arg7 harg7 arg8 harg8 arg9 harg9 arg10 harg10 arg11 harg11 hc0 hc1 hc2 x0 x1 x2 x3 x4 x5 x6 x7 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S256x5120 .bf16 × Vec F S256x5120 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1_0 (Memref.isWhole_whole _) ((hcond1_0 ⟨0, hn⟩).mpr (Nat.zero_mod _)) (fun h => (fun h => by (try dsimp only at h); omega) ((hcond1_1 ⟨0, hn⟩).mp h)) (fun h => (fun h => by (try dsimp only at h); omega) ((hcond1_2 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 4 = 0 then
      if h1 : 1 ≤ (n + 1) % 4 then
        False.elim (by have hN : n + 1 < 128 := lt_of_lt_of_eq hn (show cfg1.N = 128 from N_1); omega)
      else
        if h2 : (n + 1) % 4 = 3 then
          False.elim (by have hN : n + 1 < 128 := lt_of_lt_of_eq hn (show cfg1.N = 128 from N_1); omega)
        else
          (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) ((hcond1_0 ⟨n + 1, hn⟩).mpr h0) (fun h => h1 ((hcond1_1 ⟨n + 1, hn⟩).mp h)) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : 1 ≤ (n + 1) % 4 then
        if h2 : (n + 1) % 4 = 3 then
          (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) ((hcond1_2 ⟨n + 1, hn⟩).mpr h2) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
        else
          (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1_0 (Memref.isWhole_whole _) (fun h => h0 ((hcond1_0 ⟨n + 1, hn⟩).mp h)) ((hcond1_1 ⟨n + 1, hn⟩).mpr h1) (fun h => h2 ((hcond1_2 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        False.elim (by have hN : n + 1 < 128 := lt_of_lt_of_eq hn (show cfg1.N = 128 from N_1); omega)

/-- `outsAt1` at a point of case A: that case's contents. -/
theorem outsAt1_A (c : Dev nD) (t : Fin cfg1.N) (h0 : t.val % 4 = 0) (h1 : ¬1 ≤ t.val % 4) (h2 : ¬t.val % 4 = 3) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans ((dif_neg h2).trans rfl))

/-- `outsAt1` at a point of case B: that case's contents, over what the point before left. -/
theorem outsAt1_B (c : Dev nD) (t : Fin cfg1.N) (h0 : ¬t.val % 4 = 0) (h1 : 1 ≤ t.val % 4) (h2 : ¬t.val % 4 = 3) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C: that case's contents, over what the point before left. -/
theorem outsAt1_C (c : Dev nD) (t : Fin cfg1.N) (h0 : ¬t.val % 4 = 0) (h1 : 1 ≤ t.val % 4) (h2 : t.val % 4 = 3) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1_0 (Memref.isWhole_whole _) (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM1_0 fullShare ((outsAt1 V c n hn).2)) ∗ others1 c)

/-- Before the first point nothing is known of the accumulator. -/
theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM1_0 fullShare ((outsAt1 V c n hn).2)) ∗ others1 c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM1_0 fullShare ((outsAt1 V c (n - 1) (by omega)).2)) ∗ others1 c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS_castSucc (c : Dev nD) (t : Fin cfg1.N) :
    (dat1 V c).Φ t.castSucc = PhiS V c t.val (Nat.le_of_lt t.isLt) := by
  dsimp only [dat1]; exact Pipeline.Dat.Φ_castSucc (PhiS V c) t

/-- What the body leaves, window by window (the proof data's `match` reduced by `dsimp`). -/
theorem after1_0 (c : Dev nD) (t : Fin cfg1.N) : (dat1 V c).after 0 t = iblk1 V c 0 t := by dsimp only [dat1]
/-- What the body leaves in window 1. -/
theorem after1_1 (c : Dev nD) (t : Fin cfg1.N) : (dat1 V c).after 1 t = iblk1 V c 1 t := by dsimp only [dat1]
/-- What the body leaves in window 2. -/
theorem after1_2 (c : Dev nD) (t : Fin cfg1.N) : (dat1 V c).after 2 t = iblk1 V c 2 t := by dsimp only [dat1]
/-- What the body leaves in window 3. -/
theorem after1_3 (c : Dev nD) (t : Fin cfg1.N) : (dat1 V c).after 3 t = iblk1 V c 3 t := by dsimp only [dat1]
/-- What the body leaves in window 4. -/
theorem after1_4 (c : Dev nD) (t : Fin cfg1.N) : (dat1 V c).after 4 t = iblk1 V c 4 t := by dsimp only [dat1]
/-- What the body leaves in window 5. -/
theorem after1_5 (c : Dev nD) (t : Fin cfg1.N) : (dat1 V c).after 5 t = iblk1 V c 5 t := by dsimp only [dat1]
/-- What the body leaves in window 6. -/
theorem after1_6 (c : Dev nD) (t : Fin cfg1.N) : (dat1 V c).after 6 t = iblk1 V c 6 t := by dsimp only [dat1]
/-- What the body leaves in window 7. -/
theorem after1_7 (c : Dev nD) (t : Fin cfg1.N) : (dat1 V c).after 7 t = iblk1 V c 7 t := by dsimp only [dat1]
/-- What the body leaves in window 8. -/
theorem after1_8 (c : Dev nD) (t : Fin cfg1.N) : (dat1 V c).after 8 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
/-- What the body finds in window 1. -/
theorem before1_1 (c : Dev nD) (t : Fin cfg1.N) (d) : (dat1 V c).before 1 t d = iblk1 V c 1 t :=
  before1_1_of V (dat1 V c) (A_eq1 V c 1) (after1_1 V c) t d
/-- What the body finds in window 2. -/
theorem before1_2 (c : Dev nD) (t : Fin cfg1.N) (d) : (dat1 V c).before 2 t d = iblk1 V c 2 t :=
  before1_2_of V (dat1 V c) (A_eq1 V c 2) (after1_2 V c) t d
/-- What the body finds in window 3. -/
theorem before1_3 (c : Dev nD) (t : Fin cfg1.N) (d) : (dat1 V c).before 3 t d = iblk1 V c 3 t :=
  before1_3_of V (dat1 V c) (A_eq1 V c 3) (after1_3 V c) t d
/-- What the body finds in window 4. -/
theorem before1_4 (c : Dev nD) (t : Fin cfg1.N) (d) : (dat1 V c).before 4 t d = iblk1 V c 4 t :=
  before1_4_of V (dat1 V c) (A_eq1 V c 4) (after1_4 V c) t d
/-- What the body finds in window 5. -/
theorem before1_5 (c : Dev nD) (t : Fin cfg1.N) (d) : (dat1 V c).before 5 t d = iblk1 V c 5 t :=
  before1_5_of V (dat1 V c) (A_eq1 V c 5) (after1_5 V c) t d
/-- What the body finds in window 6. -/
theorem before1_6 (c : Dev nD) (t : Fin cfg1.N) (d) : (dat1 V c).before 6 t d = iblk1 V c 6 t :=
  before1_6_of V (dat1 V c) (A_eq1 V c 6) (after1_6 V c) t d
/-- What the body finds in window 7. -/
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 9600000 in
/-- The body at any point: the inputs' memrefs hold their blocks (`before1_W`); the closed forms say which case the point is in (`by_cases`), an output the case reads before covering holds what the point before left (`before1_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS V c (t.val + 1) t.isLt from rfl, PhiS_succ]
  have hN : t.val < 128 := lt_of_lt_of_eq t.isLt (show cfg1.N = 128 from N_1)
  by_cases h0 : t.val % 4 = 0
  · by_cases h1 : 1 ≤ t.val % 4
    · exfalso; omega
    · by_cases h2 : t.val % 4 = 3
      · exfalso; omega
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [show (dat1 V c).leavesExact 7 t = owns (c : Thread nD τ) (ms1_7 t) fullShare ((dat1 V c).after 7 t) from by
      unfold Dat.leavesExact; rw [liveAt1_7 t], after1_7]
        rw [Dat.leavesExact_idle (dat1 V c) 8 t (idleAt1_8_A t ((hcond1_0 t).mpr h0) (fun h => h1 ((hcond1_1 t).mp h)) (fun h => h2 ((hcond1_2 t).mp h))) (noFlush1_8_A t ((hcond1_0 t).mpr h0) (fun h => h1 ((hcond1_1 t).mp h)) (fun h => h2 ((hcond1_2 t).mp h)))]
        by_cases hz : t.val = 0
        · rw [PhiS_castSucc V c t, PhiS_zero V c _ _ hz, PhiA1_eq]
          rw [outsAt1_A V c t h0 h1 h2]
          unfold sout1_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun1_A c (grid1.coords t) _ _ _ _ _ _ _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          iintro ⟨H0, H1, H2, H3, H4, H5, H6, H7, H8, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
        · rw [PhiS_castSucc V c t, PhiS_pos V c _ _ hz]
          rw [outsAt1_A V c t h0 h1 h2]
          unfold sout1_A_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun1_A c (grid1.coords t) _ _ _ _ _ _ _ _ _ _ _ _ _ _ _ _ _ _ _ _ ((hcond1_0 t).mpr h0) (fun h => h1 ((hcond1_1 t).mp h)) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexists _; iexact HS0
          iintro ⟨H0, H1, H2, H3, H4, H5, H6, H7, H8, ⟨%es0, HS0⟩⟩
          isplitl [HS0 Hg]
          · isplitl [HS0]
            · unfold owns; iexists _; isplitr
              swap; · iexact HS0
              ipureintro; exact View.read_writes_of_cover _ _ _ _ _ (scover1_A_0 c _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
  · by_cases h1 : 1 ≤ t.val % 4
    · by_cases h2 : t.val % 4 = 3
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [show (dat1 V c).leavesExact 7 t = owns (c : Thread nD τ) (ms1_7 t) fullShare ((dat1 V c).after 7 t) from by
      unfold Dat.leavesExact; rw [liveAt1_7 t], after1_7]
        rw [show (dat1 V c).leavesExact 8 t = owns (c : Thread nD τ) (ms1_8 t) fullShare ((dat1 V c).after 8 t) from by
      unfold Dat.leavesExact; rw [liveAt1_8_C t (fun h => h0 ((hcond1_0 t).mp h)) ((hcond1_1 t).mpr h1) ((hcond1_2 t).mpr h2)], after1_8]
        by_cases hz : t.val = 0
        · exfalso; have hN : t.val < 128 := lt_of_lt_of_eq t.isLt (show cfg1.N = 128 from N_1); omega
        · rw [PhiS_castSucc V c t, PhiS_pos V c _ _ hz]
          rw [outsAt1_C V c t h0 h1 h2]
          unfold out1_C_8 sout1_C_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun1_C c (grid1.coords t) _ _ _ _ _ _ _ _ _ _ _ _ _ _ _ _ _ _ _ _ (fun h => h0 ((hcond1_0 t).mp h)) ((hcond1_1 t).mpr h1) ((hcond1_2 t).mpr h2) (iblk1 V c 0 t) (iblk1 V c 1 t) (iblk1 V c 2 t) (iblk1 V c 3 t) (iblk1 V c 4 t) (iblk1 V c 5 t) (iblk1 V c 6 t) (iblk1 V c 7 t) _).2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexists _; iexact H8
          isplitl [HS0]; · iexact HS0
          iintro ⟨H0, H1, H2, H3, H4, H5, H6, H7, ⟨%e8, H8⟩, ⟨%es0, HS0⟩⟩
          isplitl [HS0 Hg]
          · isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          unfold owns; iexists _; isplitr
          swap; · iexact H8
          ipureintro; exact View.read_writes_of_cover _ _ _ _ _ (cover1_C_8 c _ _ _ _ _ _ _ _ _ _ _ _ _ _ _ _ _ _ _ _ _ _ _ _ _ _ _ _ _ _ _ _ _)
      · rw [show (dat1 V c).leavesExact 0 t = owns (c : Thread nD τ) (ms1_0 t) fullShare ((dat1 V c).after 0 t) from by
      unfold Dat.leavesExact; rw [liveAt1_0 t], after1_0]
        rw [show (dat1 V c).leavesExact 1 t = owns (c : Thread nD τ) (ms1_1 t) fullShare ((dat1 V c).after 1 t) from by
      unfold Dat.leavesExact; rw [liveAt1_1 t], after1_1]
        rw [show (dat1 V c).leavesExact 2 t = owns (c : Thread nD τ) (ms1_2 t) fullShare ((dat1 V c).after 2 t) from by
      unfold Dat.leavesExact; rw [liveAt1_2 t], after1_2]
        rw [show (dat1 V c).leavesExact 3 t = owns (c : Thread nD τ) (ms1_3 t) fullShare ((dat1 V c).after 3 t) from by
      unfold Dat.leavesExact; rw [liveAt1_3 t], after1_3]
        rw [show (dat1 V c).leavesExact 4 t = owns (c : Thread nD τ) (ms1_4 t) fullShare ((dat1 V c).after 4 t) from by
      unfold Dat.leavesExact; rw [liveAt1_4 t], after1_4]
        rw [show (dat1 V c).leavesExact 5 t = owns (c : Thread nD τ) (ms1_5 t) fullShare ((dat1 V c).after 5 t) from by
      unfold Dat.leavesExact; rw [liveAt1_5 t], after1_5]
        rw [show (dat1 V c).leavesExact 6 t = owns (c : Thread nD τ) (ms1_6 t) fullShare ((dat1 V c).after 6 t) from by
      unfold Dat.leavesExact; rw [liveAt1_6 t], after1_6]
        rw [show (dat1 V c).leavesExact 7 t = owns (c : Thread nD τ) (ms1_7 t) fullShare ((dat1 V c).after 7 t) from by
      unfold Dat.leavesExact; rw [liveAt1_7 t], after1_7]
        rw [Dat.leavesExact_idle (dat1 V c) 8 t (idleAt1_8_B t (fun h => h0 ((hcond1_0 t).mp h)) ((hcond1_1 t).mpr h1) (fun h => h2 ((hcond1_2 t).mp h))) (noFlush1_8_B t (fun h => h0 ((hcond1_0 t).mp h)) ((hcond1_1 t).mpr h1) (fun h => h2 ((hcond1_2 t).mp h)))]
        by_cases hz : t.val = 0
        · exfalso; have hN : t.val < 128 := lt_of_lt_of_eq t.isLt (show cfg1.N = 128 from N_1); omega
        · rw [PhiS_castSucc V c t, PhiS_pos V c _ _ hz]
          rw [outsAt1_B V c t h0 h1 h2]
          unfold sout1_B_0; (try dsimp only)
          iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
          iapply ((kernelRun1_B c (grid1.coords t) _ _ _ _ _ _ _ _ _ _ _ _ _ _ _ _ _ _ _ _ (fun h => h0 ((hcond1_0 t).mp h)) ((hcond1_1 t).mpr h1) (fun h => h2 ((hcond1_2 t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [HS0]; · iexact HS0
          iintro ⟨H0, H1, H2, H3, H4, H5, H6, H7, H8, ⟨%es0, HS0⟩⟩
          isplitl [HS0 Hg]
          · isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          iexists _; iexact H8
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out V c _ (by rw [Fin.val_last]; have : cfg1.N = 128 := N_1; omega)

end Cert.KernelIdeal.Run

end
-- ==== Proof.KernelIdeal.Launch.lean ====
/- The two kernel calls and the reshapes around them, run one after another: every argument ends as it was, and every
   buffer holds what the last boundary says. -/
module

public import proofs.«01_k».proof.Proof.KernelIdeal.QuantBody
public import proofs.«01_k».proof.Proof.KernelIdeal.MoeBody
public import Idealize.ShloMosaic.Lib.Pipeline.Frame
public import Idealize.ShloMosaic.Lib.Pipeline.Regions

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
/-- The buffers these host operations write. -/
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v2, main_v3, main_v4, main_v5]
/-- The buffers these host operations write. -/
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v7, main_v8, main_v9]
/-- The buffers these host operations write. -/
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments hold what they held at the start. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments hold what they held at the start. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
/-- A window's array holds what the call leaves in it. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is no window's array holds what it held before. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments hold what they held at the start. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
/-- The call changes no other buffer. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
/-- The arguments hold what they held at the start. -/
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
/-- A window's array holds what the call leaves in it. -/
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
/-- A buffer that is no window's array holds what it held before. -/
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments hold what they held at the start. -/
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
/-- The call changes no other buffer. -/
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`. -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
/-- The arguments hold what they held at the start. -/
theorem W5_args (c : Dev nD) : ∀ a ∈ argRefs, W5 m ρ c (Proc.devRef .tc a) = m ((c : Thread nD τ).loc a) :=
  fun a ha => (W5_of m ρ c a (hostOps2_args a ha)).trans (W4_args m ρ c a ha)

/-! ### The arguments end as launched: no host stretch writes one and no region may change one (a region reads it
    through an input window or bypasses it) -/

/-- The argument ends as it started. -/
theorem W5_main_arg0 (c : Dev nD) : W5 m ρ c (Proc.devRef .tc main_arg0) = m ((c : Thread nD τ).loc main_arg0) :=
  W5_args m ρ c main_arg0 (by decide)
/-- The argument ends as it started. -/
theorem W5_main_arg1 (c : Dev nD) : W5 m ρ c (Proc.devRef .tc main_arg1) = m ((c : Thread nD τ).loc main_arg1) :=
  W5_args m ρ c main_arg1 (by decide)
/-- The argument ends as it started. -/
theorem W5_main_arg2 (c : Dev nD) : W5 m ρ c (Proc.devRef .tc main_arg2) = m ((c : Thread nD τ).loc main_arg2) :=
  W5_args m ρ c main_arg2 (by decide)
/-- The argument ends as it started. -/
theorem W5_main_arg3 (c : Dev nD) : W5 m ρ c (Proc.devRef .tc main_arg3) = m ((c : Thread nD τ).loc main_arg3) :=
  W5_args m ρ c main_arg3 (by decide)
/-- The argument ends as it started. -/
theorem W5_main_arg4 (c : Dev nD) : W5 m ρ c (Proc.devRef .tc main_arg4) = m ((c : Thread nD τ).loc main_arg4) :=
  W5_args m ρ c main_arg4 (by decide)
/-- The argument ends as it started. -/
theorem W5_main_arg5 (c : Dev nD) : W5 m ρ c (Proc.devRef .tc main_arg5) = m ((c : Thread nD τ).loc main_arg5) :=
  W5_args m ρ c main_arg5 (by decide)
/-- The argument ends as it started. -/
theorem W5_main_arg6 (c : Dev nD) : W5 m ρ c (Proc.devRef .tc main_arg6) = m ((c : Thread nD τ).loc main_arg6) :=
  W5_args m ρ c main_arg6 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
/-- No loop variants are needed. -/
abbrev 𝒱₀ : Variants := Variants.none
/-- No core owes another anything: no level is assigned. -/
abbrev L : GSem nD τ sig → Finset Unit := fun _ => ∅
/-- Every semaphore has level zero. -/
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W5`, the generator register at some state. -/
abbrev Tₙ (c : Dev nD) : sProp 𝕄 := iprop(StableHlo.held (c : Thread nD τ) (Pipeline.ucRefs τ sig) (W5 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from
      (show (pdats m ρ 1 c).Φ 0 = PhiS (V3 m ρ) c 0 (Nat.zero_le _) from rfl).trans (PhiS_zero (V3 m ρ) c 0 _ rfl)]
    unfold Pipeline.ΦA
    iintro ⟨Hp, -, Hr⟩
    isplitl [Hr]; · iexact Hr
    iexact Hp
  hout c := by
    refine BIBase.Entails.trans (hout1 (V3 m ρ) c) ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 5 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every fair execution ends, with every buffer that no call scopes at what
    the last boundary holds and every counter at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W5 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨h, funext fun g => hz g (.inr (no_unscoped g.2))⟩)

/-- THE FRAME: every argument ends as it was, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
      ⟨(h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩, h.2⟩) (run_all m ρ)

/-- THE VALUES: the three results end at what the last boundary holds, and every argument as it was. -/
theorem run_values : θ_run defs (onTc (τ := τ) (main (F := F))) ⟨m, fun _ => 0, ρ⟩ (fun r => ∀ c : Dev nD,
      r.2.mem ((c.tc : Thread nD τ).loc main_v7) = W5 m ρ c main_v7
      ∧ r.2.mem ((c.tc : Thread nD τ).loc main_v8) = W5 m ρ c main_v8
      ∧ r.2.mem ((c.tc : Thread nD τ).loc main_v9) = W5 m ρ c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h.1 c _ (mem_uc main_v7 (by decide)), h.1 c _ (mem_uc main_v8 (by decide)), h.1 c _ (mem_uc main_v9 (by decide)), (h.1 c _ (mem_uc main_arg0 (by decide))).trans (W5_main_arg0 m ρ c),
       (h.1 c _ (mem_uc main_arg1 (by decide))).trans (W5_main_arg1 m ρ c),
       (h.1 c _ (mem_uc main_arg2 (by decide))).trans (W5_main_arg2 m ρ c),
       (h.1 c _ (mem_uc main_arg3 (by decide))).trans (W5_main_arg3 m ρ c),
       (h.1 c _ (mem_uc main_arg4 (by decide))).trans (W5_main_arg4 m ρ c),
       (h.1 c _ (mem_uc main_arg5 (by decide))).trans (W5_main_arg5 m ρ c),
       (h.1 c _ (mem_uc main_arg6 (by decide))).trans (W5_main_arg6 m ρ c)⟩) (run_all m ρ)

end Cert.KernelIdeal.Run

end
-- ==== Proof.Scale.lean ====
/- The quantiser's exponent, on one row maximum. The kernel finds it by halving over the powers of two, the reference as the
   clipped floor of a logarithm; both give the same power of two and the same inverse, for every extended real. -/
module

public import Idealize.ShloMosaic.PureOps.Ideal.Laws

@[expose] public section

noncomputable section

namespace Cert.Scale

open Idealize.ShloMosaic

/-- The single-precision constant nearest 1/448, by which a row maximum is multiplied. -/
def ratio : EReal := Ideal.ofBits .f32 0x3B124925#32

/-- The float whose exponent field is `j` and whose other bits are zero. -/
def fieldFloat (j : BitVec 32) : EReal := Ideal.ofBits .f32 (IntOp.shli .vector j 23#32)

/-- One step of the kernel's search: the field moves up by `k` if `m` is at least the power of two found there. -/
def step (m : EReal) (f k : BitVec 32) : BitVec 32 :=
  Scalar.select (Ideal.cmp .oge m (fieldFloat (IntOp.addi f k))) (IntOp.addi f k) f

/-- The kernel's search: eight steps up from field 0. -/
def search (m : EReal) : BitVec 32 :=
  step m (step m (step m (step m (step m (step m (step m (step m 0#32 126#32) 63#32) 32#32) 16#32) 8#32) 4#32) 2#32) 1#32

/-- The kernel's exponent of a scaled row maximum `m`: zero for zero, else the field found, less 126. -/
def expoK (m : EReal) : BitVec 32 :=
  Scalar.select (Ideal.cmp .oeq m (Ideal.ofBits .f32 0x00000000#32)) 0#32 (IntOp.subi (search m) 126#32)

/-- The kernel's scale of a row whose greatest magnitude is `a`. -/
def scaleK (a : EReal) : EReal := fieldFloat (IntOp.addi (expoK (a * ratio)) 127#32)

/-- The kernel's inverse scale of such a row. -/
def invK (a : EReal) : EReal := fieldFloat (IntOp.subi 127#32 (expoK (a * ratio)))

/-- The reference's exponent of a row whose greatest magnitude is `a`: the floor of the binary logarithm of `a / 448`, plus
    one, clipped to `[-126, 126]`, and zero for a row of zeros. -/
def expoR (a : EReal) : EReal :=
  Scalar.select (Ideal.cmp .oeq a (Ideal.ofBits .f32 0x00000000#32)) (Ideal.ofBits .f32 0x00000000#32)
    (min (Ideal.ofBits .f32 0x42FC0000#32) (max (Ideal.ofBits .f32 0xC2FC0000#32)
      (Ideal.liftRound Int.floor (Ideal.div (Ideal.log (a * ratio)) (Ideal.log (Ideal.ofBits .f32 0x40000000#32)))
        + Ideal.ofBits .f32 0x3F800000#32)))

/-- The reference's scale. -/
def scaleR (a : EReal) : EReal := Ideal.exp2 (expoR a)

/-- The reference's inverse scale. -/
def invR (a : EReal) : EReal := Ideal.exp2 (Ideal.ofBits .f32 0x00000000#32 - expoR a)

/-! ## The constants -/

/-- Its exact value. -/
theorem ratio_eq : ratio = (((9586981 : ℝ) * (2 : ℝ) ^ (-32 : ℤ) : ℝ) : EReal) := by
  unfold ratio; simp [Ideal.ofBits, Ideal.ieee]

/-- It is a positive real. -/
theorem ratio_pos : ∃ q : ℝ, 0 < q ∧ ratio = (q : EReal) := ⟨_, by positivity, ratio_eq⟩

/-- The zero pattern is zero. -/
theorem zero_eq : Ideal.ofBits .f32 0x00000000#32 = 0 := Ideal.ofBits_zero_f32

/-- The pattern of one is one. -/
theorem one_eq : Ideal.ofBits .f32 0x3F800000#32 = ((1 : ℝ) : EReal) := by
  simp [Ideal.ofBits, Ideal.ieee]; norm_num [zpow_neg, ← EReal.coe_mul]

/-- The pattern of two is two. -/
theorem two_eq : Ideal.ofBits .f32 0x40000000#32 = ((2 : ℝ) : EReal) := by
  simp [Ideal.ofBits, Ideal.ieee]; norm_num [zpow_neg, ← EReal.coe_mul]

/-- The pattern of 126 is 126. -/
theorem hi_eq : Ideal.ofBits .f32 0x42FC0000#32 = ((126 : ℝ) : EReal) := by
  simp [Ideal.ofBits, Ideal.ieee]; norm_num [zpow_neg, ← EReal.coe_mul]

/-- The pattern of -126 is -126. -/
theorem lo_eq : Ideal.ofBits .f32 0xC2FC0000#32 = ((-126 : ℝ) : EReal) := by
  simp [Ideal.ofBits, Ideal.ieee]; norm_num [zpow_neg, ← EReal.coe_mul]

/-- A field `j` from 1 to 254 holds the power of two `2 ^ (j - 127)`. -/
theorem fieldFloat_eq (j : ℕ) (h1 : 1 ≤ j) (h2 : j ≤ 254) :
    fieldFloat (BitVec.ofNat 32 j) = (((2 : ℝ) ^ ((j : ℤ) - 127) : ℝ) : EReal) := by
  have hs : IntOp.shli .vector (BitVec.ofNat 32 j) 23#32 = BitVec.ofNat 32 (j * 2 ^ 23) := by
    unfold IntOp.shli
    rw [if_pos (by decide)]
    apply BitVec.eq_of_toNat_eq
    simp [BitVec.toNat_shiftLeft, Nat.shiftLeft_eq]
  have hb : (BitVec.ofNat 32 (j * 2 ^ 23)).toNat = j * 8388608 := by
    rw [BitVec.toNat_ofNat]; omega
  unfold fieldFloat
  rw [hs]
  have e1 : ((BitVec.ofNat 32 (j * 2 ^ 23)).extractLsb' 23 8).toNat = j := by
    rw [BitVec.extractLsb'_toNat, hb, Nat.shiftRight_eq_div_pow]; omega
  have e2 : ((BitVec.ofNat 32 (j * 2 ^ 23)).extractLsb' 0 23).toNat = 0 := by
    rw [BitVec.extractLsb'_toNat, hb, Nat.shiftRight_eq_div_pow]; omega
  have e3 : ((BitVec.ofNat 32 (j * 2 ^ 23)).extractLsb' 31 1 == 1#1) = false := by
    rw [beq_eq_false_iff_ne]; intro h
    have := congrArg BitVec.toNat h
    rw [BitVec.extractLsb'_toNat, hb, Nat.shiftRight_eq_div_pow] at this
    simp at this; omega
  simp only [Ideal.ofBits, Ideal.ieee]
  rw [e1, e2]
  simp only [show (8 + 23 : ℕ) = 31 from rfl, e3]
  rw [if_neg (by norm_num; omega), if_neg (by omega)]
  congr 1
  have : ((j : ℤ) - 127) = ((j : ℤ) - (2 ^ (8 - 1) - 1) - (23 : ℕ)) + (23 : ℕ) := by norm_num
  rw [this, zpow_add₀ (by norm_num : (2:ℝ) ≠ 0), zpow_natCast]
  push_cast
  simp only [if_false, Bool.false_eq_true, one_mul, add_zero]
  rw [mul_comm]
  norm_num

/-! ## The search -/

/-- One step, when comparing at a field tells whether it is at most `T`. -/
theorem step_eq (m : EReal) (T : ℕ) (hT : T ≤ 252)
    (h : ∀ j : ℕ, 1 ≤ j → j ≤ 252 → (fieldFloat (BitVec.ofNat 32 j) ≤ m ↔ j ≤ T)) (a k : ℕ) (hk : 1 ≤ k)
    (hak : a + k ≤ 252) :
    step m (BitVec.ofNat 32 a) (BitVec.ofNat 32 k) = BitVec.ofNat 32 (if a + k ≤ T then a + k else a) := by
  have hadd : IntOp.addi (BitVec.ofNat 32 a) (BitVec.ofNat 32 k) = BitVec.ofNat 32 (a + k) := by
    unfold IntOp.addi; rw [BitVec.ofNat_add]
  unfold step
  rw [hadd]
  unfold Scalar.select Ideal.cmp
  have := h (a + k) (by omega) hak
  by_cases hc : a + k ≤ T
  · rw [if_pos hc]; simp [this.mpr hc]
  · rw [if_neg hc]
    have hn : ¬ fieldFloat (BitVec.ofNat 32 (a + k)) ≤ m := fun x => hc (this.mp x)
    simp [hn]

/-- So the search ends at `T`. -/
theorem search_eq (m : EReal) (T : ℕ) (hT : T ≤ 252)
    (h : ∀ j : ℕ, 1 ≤ j → j ≤ 252 → (fieldFloat (BitVec.ofNat 32 j) ≤ m ↔ j ≤ T)) :
    search m = BitVec.ofNat 32 T := by
  have key : ∀ a k S : ℕ, 1 ≤ k → a ≤ T → T ≤ a + k + S → k ≤ S + 1 → a + k + S ≤ 252 →
      ∃ b, step m (BitVec.ofNat 32 a) (BitVec.ofNat 32 k) = BitVec.ofNat 32 b ∧ b ≤ T ∧ T ≤ b + S ∧ b + S ≤ 252 := by
    intro a k S hk haT hTS hkS hS
    refine ⟨_, step_eq m T hT h a k hk (by omega), ?_⟩
    split <;> omega
  obtain ⟨b1, e1, h1, h1', h1''⟩ := key 0 126 126 (by omega) (by omega) (by omega) (by omega) (by omega)
  obtain ⟨b2, e2, h2, h2', h2''⟩ := key b1 63 63 (by omega) (by omega) (by omega) (by omega) (by omega)
  obtain ⟨b3, e3, h3, h3', h3''⟩ := key b2 32 31 (by omega) (by omega) (by omega) (by omega) (by omega)
  obtain ⟨b4, e4, h4, h4', h4''⟩ := key b3 16 15 (by omega) (by omega) (by omega) (by omega) (by omega)
  obtain ⟨b5, e5, h5, h5', h5''⟩ := key b4 8 7 (by omega) (by omega) (by omega) (by omega) (by omega)
  obtain ⟨b6, e6, h6, h6', h6''⟩ := key b5 4 3 (by omega) (by omega) (by omega) (by omega) (by omega)
  obtain ⟨b7, e7, h7, h7', h7''⟩ := key b6 2 1 (by omega) (by omega) (by omega) (by omega) (by omega)
  obtain ⟨b8, e8, h8, h8', h8''⟩ := key b7 1 0 (by omega) (by omega) (by omega) (by omega) (by omega)
  unfold search
  rw [show (0#32 : BitVec 32) = BitVec.ofNat 32 0 from rfl] at *
  have : b8 = T := by omega
  subst this
  rw [e1, e2, e3, e4, e5, e6, e7, e8]

/-- The clipped exponent of an extended real, as an integer: what both sides compute, away from zero. -/
def clipped (m : EReal) : ℤ :=
  match m with
  | ⊥ => -126
  | ⊤ => 126
  | (r : ℝ) => if r ≤ 0 then -126 else min 126 (max (-126) (⌊Real.log r / Real.log 2⌋ + 1))

/-- Below every real it is -126. -/
theorem clipped_bot : clipped ⊥ = -126 := rfl
/-- Above every real it is 126. -/
theorem clipped_top : clipped ⊤ = 126 := rfl

/-- It lies between -126 and 126. -/
theorem clipped_range (m : EReal) : -126 ≤ clipped m ∧ clipped m ≤ 126 := by
  unfold clipped
  split
  · omega
  · omega
  · split <;> omega

/-- A power of two is at most a positive real exactly when its exponent is at most the floor of the logarithm. -/
theorem zpow_le_iff (r : ℝ) (hr : 0 < r) (n : ℤ) : (2 : ℝ) ^ n ≤ r ↔ n ≤ ⌊Real.log r / Real.log 2⌋ := by
  have h2 : 0 < Real.log 2 := Real.log_pos (by norm_num)
  rw [Int.le_floor, le_div_iff₀ h2, ← Real.log_zpow, Real.log_le_log_iff (by positivity) hr]

/-- The search ends at the clipped exponent, plus 126. -/
theorem search_clipped (m : EReal) : search m = BitVec.ofNat 32 (clipped m + 126).toNat := by
  have hr := clipped_range m
  refine search_eq m _ (by omega) ?_
  intro j h1 h2
  rw [fieldFloat_eq j (by omega) (by omega)]
  induction m with
  | bot => rw [clipped_bot]; simp; omega
  | top => rw [clipped_top]; simp; omega
  | coe r =>
    rw [EReal.coe_le_coe_iff]
    by_cases h0 : r ≤ 0
    · have : clipped (r : EReal) = -126 := by
        show (if r ≤ 0 then _ else _) = _
        rw [if_pos h0]
      rw [this]
      have hp : (0 : ℝ) < 2 ^ ((j : ℤ) - 127) := by positivity
      constructor
      · intro h; linarith
      · intro h; omega
    · have : clipped (r : EReal) = min 126 (max (-126) (⌊Real.log r / Real.log 2⌋ + 1)) := by
        show (if r ≤ 0 then _ else _) = _
        rw [if_neg h0]
      rw [this, zpow_le_iff r (by linarith)]
      omega

/-- The reference's clipped expression is that integer. -/
theorem clip_expr (m : EReal) :
    min (Ideal.ofBits .f32 0x42FC0000#32) (max (Ideal.ofBits .f32 0xC2FC0000#32)
      (Ideal.liftRound Int.floor (Ideal.div (Ideal.log m) (Ideal.log (Ideal.ofBits .f32 0x40000000#32)))
        + Ideal.ofBits .f32 0x3F800000#32)) = (((clipped m : ℤ) : ℝ) : EReal) := by
  have h2 : 0 < Real.log 2 := Real.log_pos (by norm_num)
  have hl2 : Ideal.log ((2 : ℝ) : EReal) = ((Real.log 2 : ℝ) : EReal) := by
    rw [Ideal.log_coe, if_neg (by norm_num)]
  have hi : (0 : ℝ) < 1 / Real.log 2 := by positivity
  rw [hi_eq, lo_eq, two_eq, one_eq, hl2, Ideal.div_coe h2.ne']
  have hbot : min ((126 : ℝ) : EReal) (max ((-126 : ℝ) : EReal)
      (Ideal.liftRound Int.floor (⊥ * ((1 / Real.log 2 : ℝ) : EReal)) + ((1 : ℝ) : EReal))) = ((-126 : ℝ) : EReal) := by
    rw [EReal.bot_mul_coe_of_pos hi]
    show min _ (max _ (⊥ + _)) = _
    rw [EReal.bot_add, max_eq_left bot_le, min_eq_right]
    rw [EReal.coe_le_coe_iff]; norm_num
  induction m with
  | bot => rw [Ideal.log_bot, hbot, clipped_bot]; norm_num
  | top =>
    rw [Ideal.log_top, EReal.top_mul_coe_of_pos hi]
    show min _ (max _ (⊤ + _)) = _
    rw [EReal.top_add_coe, max_eq_right le_top, min_eq_left le_top, clipped_top]
    norm_num
  | coe r =>
    by_cases h0 : r ≤ 0
    · have : clipped (r : EReal) = -126 := by
        show (if r ≤ 0 then _ else _) = _
        rw [if_pos h0]
      rw [this, Ideal.log_coe, if_pos h0, hbot]; norm_num
    · have : clipped (r : EReal) = min 126 (max (-126) (⌊Real.log r / Real.log 2⌋ + 1)) := by
        show (if r ≤ 0 then _ else _) = _
        rw [if_neg h0]
      rw [this, Ideal.log_coe, if_neg h0, ← EReal.coe_mul]
      show min _ (max _ (((⌊Real.log r * (1 / Real.log 2)⌋ : ℝ) : EReal) + _)) = _
      rw [← EReal.coe_add, mul_one_div]
      rw [← EReal.coe_strictMono.monotone.map_max, ← EReal.coe_strictMono.monotone.map_min]
      push_cast
      rfl

/-! ## The two scales agree -/

/-- The exponent both sides use, as an integer. -/
def expo (a : EReal) : ℤ := if a = 0 then 0 else clipped (a * ratio)

/-- It lies between -126 and 126. -/
theorem expo_range (a : EReal) : -126 ≤ expo a ∧ expo a ≤ 126 := by
  unfold expo; split
  · omega
  · exact clipped_range _

/-- Only zero is scaled to zero. -/
theorem mul_ratio_eq_zero (a : EReal) : a * ratio = 0 ↔ a = 0 := by
  obtain ⟨q, hq, e⟩ := ratio_pos
  rw [e, mul_eq_zero]
  constructor
  · rintro (h | h)
    · exact h
    · exact absurd (EReal.coe_eq_zero.mp h) hq.ne'
  · exact Or.inl

/-- The reference's exponent is that integer. -/
theorem expoR_eq (a : EReal) : expoR a = (((expo a : ℤ) : ℝ) : EReal) := by
  unfold expoR expo
  rw [clip_expr, zero_eq]
  unfold Scalar.select Ideal.cmp
  by_cases h : a = 0
  · simp [h]
  · simp [h]

/-- The kernel's exponent is that integer. -/
theorem expoK_eq (a : EReal) : expoK (a * ratio) = BitVec.ofInt 32 (expo a) := by
  unfold expoK expo
  rw [zero_eq]
  unfold Scalar.select Ideal.cmp
  by_cases h : a = 0
  · simp [h]
  · have hm : ¬ a * ratio = 0 := fun x => h ((mul_ratio_eq_zero a).mp x)
    simp only [hm, h, decide_false, if_false]
    rw [if_neg (by decide), search_clipped]
    have hr := clipped_range (a * ratio)
    generalize clipped (a * ratio) = z at hr
    obtain ⟨n, rfl⟩ : ∃ n : ℕ, z = (n : ℤ) - 126 := ⟨(z + 126).toNat, by omega⟩
    have hn : n < 253 := by omega
    rw [show ((n : ℤ) - 126 + 126).toNat = n by omega]
    unfold IntOp.subi
    clear hm h hr
    interval_cases n <;> decide

/-- The scale's exponent field. -/
theorem scale_bits (a : EReal) : IntOp.addi (expoK (a * ratio)) 127#32 = BitVec.ofNat 32 (expo a + 127).toNat := by
  rw [expoK_eq]
  have hr := expo_range a
  generalize expo a = z at hr
  obtain ⟨n, rfl⟩ : ∃ n : ℕ, z = (n : ℤ) - 126 := ⟨(z + 126).toNat, by omega⟩
  have hn : n < 253 := by omega
  rw [show ((n : ℤ) - 126 + 127).toNat = n + 1 by omega]
  clear hr
  unfold IntOp.addi
  interval_cases n <;> decide

/-- The inverse scale's exponent field. -/
theorem inv_bits (a : EReal) : IntOp.subi 127#32 (expoK (a * ratio)) = BitVec.ofNat 32 (127 - expo a).toNat := by
  rw [expoK_eq]
  have hr := expo_range a
  generalize expo a = z at hr
  obtain ⟨n, rfl⟩ : ∃ n : ℕ, z = (n : ℤ) - 126 := ⟨(z + 126).toNat, by omega⟩
  have hn : n < 253 := by omega
  rw [show (127 - ((n : ℤ) - 126)).toNat = 253 - n by omega]
  clear hr
  unfold IntOp.subi
  interval_cases n <;> decide

/-- The kernel's scale is the reference's. -/
theorem scale_eq (a : EReal) : scaleK a = scaleR a := by
  have hr := expo_range a
  unfold scaleK scaleR
  rw [scale_bits, fieldFloat_eq _ (by omega) (by omega), expoR_eq, Ideal.exp2_coe]
  congr 1
  rw [show (((expo a + 127).toNat : ℕ) : ℤ) - 127 = expo a by omega]
  exact (Real.rpow_intCast 2 (expo a)).symm

/-- The kernel's inverse scale is the reference's. -/
theorem inv_eq (a : EReal) : invK a = invR a := by
  have hr := expo_range a
  unfold invK invR
  rw [inv_bits, fieldFloat_eq _ (by omega) (by omega), expoR_eq, zero_eq, zero_sub, ← EReal.coe_neg, Ideal.exp2_coe]
  congr 1
  rw [show (((127 - expo a).toNat : ℕ) : ℤ) - 127 = -expo a by omega]
  have := (Real.rpow_intCast 2 (-expo a)).symm
  rw [this]; push_cast; rfl

end Cert.Scale

end
-- ==== Proof.Layers.lean ====
/- The few array operations the blocks use, read at one position, and the equation's row-level mathematics. -/
module

public import Idealize.ShloMosaic.Lib.MatmulPlain
public import Idealize.ShloMosaic.Lib.ValueIdx
public import Idealize.ShloMosaic.Lib.ValueLayout
public import Idealize.ShloMosaic.Lib.ValueLayoutCasts
public import Idealize.ShloMosaic.Lib.Pipeline.Value
public import proofs.«01_k».proof.Proof.Scale

@[expose] public section

noncomputable section

namespace Cert.Layers

open Idealize.ShloMosaic
open Idealize.ShloMosaic.ValueIdx
open scoped BigOperators

/-! ## Reading one position -/

/-- A column `[a, 1]` broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The greatest element of row `r` of a matrix, as a fold over the row, from the accumulator's constant. -/
theorem rowFold_apply {R n : ℕ} {φ : FTy} (v : FVec Ideal ⟨2, ![R, n]⟩ φ) (acc : BitVec φ.bits)
    (h : (⟨2, ![R, n]⟩ : Shape).Reduces [1] ⟨1, ![R]⟩) (hφ) (hacc) (r : Fin R) :
    multiReduction .maximumf [1] ⟨1, ![R]⟩ v acc h hφ hacc (ix1 r)
      = (Finset.univ : Finset (Fin n)).fold max (Ideal.ofBits φ acc) (fun k => v (ix2 r k)) := by
  refine (Ideal.multiReduction_maximumf_single v acc h hφ hacc (ix1 r)).trans ?_
  refine congrArg (fun f => (Finset.univ : Finset (Fin n)).fold max (Ideal.ofBits φ acc) f) (funext fun k => ?_)
  refine congrArg v (funext fun a => Fin.ext ?_)
  match a with
  | ⟨0, _⟩ => rfl
  | ⟨1, _⟩ => rfl

/-- The single-precision pattern of minus infinity is the least extended real. -/
theorem neg_top_f32 : Ideal.ofBits .f32 0xFF800000#32 = (⊥ : EReal) := by simp [Ideal.ofBits, Ideal.ieee]
/-- The bf16 pattern of minus infinity is the least extended real. -/
theorem neg_top_bf16 : Ideal.ofBits .bf16 0xFF80#16 = (⊥ : EReal) := by simp [Ideal.ofBits, Ideal.ieee]

/-- The greatest element of each row kept as a column, at row `r`. -/
theorem rowFoldCol_apply {R n : ℕ} {φ : FTy} (v : FVec Ideal ⟨2, ![R, n]⟩ φ) (acc : BitVec φ.bits)
    (h : (⟨2, ![R, n]⟩ : Shape).Reduces [1] ⟨1, ![R]⟩) (hφ) (hacc) (hc : (⟨1, ![R]⟩ : Shape).ShapeCasts ⟨2, ![R, 1]⟩) (r : Fin R) :
    shapeCast ⟨2, ![R, 1]⟩ (multiReduction .maximumf [1] ⟨1, ![R]⟩ v acc h hφ hacc) hc (ix2 r (0 : Fin 1))
      = (Finset.univ : Finset (Fin n)).fold max (Ideal.ofBits φ acc) (fun k => v (ix2 r k)) :=
  (shapeCast_a_a1_apply _ hc r 0).trans (rowFold_apply v acc h hφ hacc r)

/-- The logistic function at a position. -/
theorem logistic_apply {s : Shape} {φ : FTy} (a : FVec Ideal s φ) (i : s.Idx) : logistic a i = Ideal.logistic (a i) := rfl

/-! ## The kernel's search, on a whole array at once -/

/-- One step of the search at every position. -/
def vstep {s : Shape} (m : FVec Ideal s .f32) (f : IVec s 32) (k : BitVec 32) : IVec s 32 :=
  select (cmpf .oge m (bitcastToFloat .f32 (shli (addi f (broadcast s k)) (broadcast s 23#32)))) (addi f (broadcast s k)) f

/-- At a position it is the step on the value there. -/
theorem vstep_apply {s : Shape} (m : FVec Ideal s .f32) (f : IVec s 32) (k : BitVec 32) (i : s.Idx) :
    vstep m f k i = Scale.step (m i) (f i) k := rfl

/-- The exponent from the field found, at every position. -/
def vexpo {s : Shape} (m : FVec Ideal s .f32) (f : IVec s 32) : IVec s 32 :=
  select (cmpf .oeq m (broadcast s (Scalar.ofBits (F := Ideal) .f32 0x00000000#32))) (broadcast s 0#32) (subi f (broadcast s 126#32))

/-- The eight steps and the exponent, at every position. -/
def vsearch {s : Shape} (m : FVec Ideal s .f32) : IVec s 32 :=
  vexpo m (vstep m (vstep m (vstep m (vstep m (vstep m (vstep m (vstep m (vstep m (broadcast s 0#32) 126#32) 63#32) 32#32) 16#32) 8#32) 4#32) 2#32) 1#32)

/-- At a position it is the search on the value there. -/
theorem vsearch_apply {s : Shape} (m : FVec Ideal s .f32) (i : s.Idx) : vsearch m i = Scale.expoK (m i) := by
  show Scalar.select _ _ (IntOp.subi (vstep m _ 1#32 i) 126#32) = _
  simp only [vstep_apply]
  rfl

/-! ## One row -/

/-- The greatest magnitude in a row. -/
def rowMax {n : ℕ} (v : Fin n → EReal) : EReal := (Finset.univ : Finset (Fin n)).fold max ⊥ fun k => max (v k) (-(v k))

/-- Clipping to `[-448, 448]`. -/
def clip (z : EReal) : EReal := min (Ideal.ofBits .f32 0x43E00000#32) (max (Ideal.ofBits .f32 0xC3E00000#32) z)

/-- A row's scale: the power of two found from its greatest magnitude. -/
def scale {n : ℕ} (v : Fin n → EReal) : EReal := Scale.scaleR (rowMax v)

/-- A row's codes: its elements times the inverse scale, clipped. -/
def codes {n : ℕ} (v : Fin n → EReal) (k : Fin n) : EReal := clip (v k * Scale.invR (rowMax v))

/-- The product of two rows. -/
def dotp {n : ℕ} (x w : Fin n → EReal) : EReal := ∑ k : Fin n, x k * w k

/-- One projection of a quantised row: the product of codes and weights, times the row's scale, times the weights' scale. -/
def proj {n : ℕ} (c : Fin n → EReal) (s : EReal) (w : Fin n → EReal) (t : EReal) : EReal := dotp c w * s * t

/-- The gated activation of a gate and an up projection. -/
def act (g u : EReal) : EReal := g * Ideal.logistic g * u

/-- One expert's hidden row from a quantised token: column `j`'s gate is the projection on row `j` of the expert's first
    weights, its up on row `j + 768`. -/
def hidden (c : Fin 5120 → EReal) (s : EReal) (w13 : Fin 1536 → Fin 5120 → EReal) (s13 : Fin 1536 → EReal) (j : Fin 768) : EReal :=
  act (proj c s (w13 ⟨j.val, by omega⟩) (s13 ⟨j.val, by omega⟩)) (proj c s (w13 ⟨768 + j.val, by omega⟩) (s13 ⟨768 + j.val, by omega⟩))

/-- One expert's share of one element of a token's output: the hidden row quantised again, projected on one row of the second
    weights and weighed with the token's routing weight; zero where the token does not go to the expert. -/
def share (h : Fin 768 → EReal) (w2 : Fin 768 → EReal) (s2 : EReal) (m0 m1 : BitVec 1) (r0 r1 : EReal) : EReal :=
  Scalar.select (IntOp.ori m0 m1) (proj (codes h) (scale h) w2 s2 * Scalar.select m0 r0 r1) (Ideal.ofBits .f32 0x00000000#32)

/-- The same fold as `rowMax` from the single-precision accumulator. -/
theorem rowMax_f32 {n : ℕ} (v : Fin n → EReal) :
    (Finset.univ : Finset (Fin n)).fold max (Ideal.ofBits .f32 0xFF800000#32) (fun k => max (v k) (-(v k))) = rowMax v := by
  rw [neg_top_f32]; rfl

/-- The same fold as `rowMax` from the half-precision accumulator. -/
theorem rowMax_bf16 {n : ℕ} (v : Fin n → EReal) :
    (Finset.univ : Finset (Fin n)).fold max (Ideal.ofBits .bf16 0xFF80#16) (fun k => max (v k) (-(v k))) = rowMax v := by
  rw [neg_top_bf16]; rfl

/-- Rows times a column of inverse scales, clipped, at a position. -/
theorem clipped_apply {R n : ℕ} (y : FVec Ideal ⟨2, ![R, n]⟩ .f32) (e : FVec Ideal ⟨2, ![R, 1]⟩ .f32)
    (h : (⟨2, ![R, 1]⟩ : Shape).Broadcasts ⟨2, ![R, n]⟩) (r : Fin R) (k : Fin n) :
    minimumf (broadcast ⟨2, ![R, n]⟩ (Scalar.ofBits (F := Ideal) .f32 0x43E00000#32))
      (maximumf (broadcast ⟨2, ![R, n]⟩ (Scalar.ofBits (F := Ideal) .f32 0xC3E00000#32))
        (mulf y (broadcastTo ⟨2, ![R, n]⟩ (exp2 (subf (broadcast ⟨2, ![R, 1]⟩ (Scalar.ofBits (F := Ideal) .f32 0x00000000#32)) e)) h))) (ix2 r k)
      = clip (y (ix2 r k) * Ideal.exp2 (Ideal.ofBits .f32 0x00000000#32 - e (ix2 r (0 : Fin 1)))) :=
  congrArg (fun z => clip (y (ix2 r k) * z)) (broadcastTo_a1_ab_apply _ h r k)

/-- The binary exponential at a position. -/
theorem exp2_apply {s : Shape} {φ : FTy} (a : FVec Ideal s φ) (i : s.Idx) : exp2 a i = Ideal.exp2 (a i) := rfl

/-- The greatest magnitude of each row kept as a column, in half precision. -/
theorem absMaxCol_bf16 {R n : ℕ} (v : FVec Ideal ⟨2, ![R, n]⟩ .bf16)
    (h : (⟨2, ![R, n]⟩ : Shape).Reduces [1] ⟨1, ![R]⟩) (hφ) (hacc) (hc : (⟨1, ![R]⟩ : Shape).ShapeCasts ⟨2, ![R, 1]⟩) (r : Fin R) :
    shapeCast ⟨2, ![R, 1]⟩ (multiReduction .maximumf [1] ⟨1, ![R]⟩ (absf v) 0xFF80#16 h hφ hacc) hc (ix2 r (0 : Fin 1))
      = rowMax (fun k => v (ix2 r k)) :=
  (rowFoldCol_apply (absf v) 0xFF80#16 h hφ hacc hc r).trans (rowMax_bf16 fun k => v (ix2 r k))

/-- The greatest magnitude of each row kept as a column, in single precision. -/
theorem absMaxCol_f32 {R n : ℕ} (v : FVec Ideal ⟨2, ![R, n]⟩ .f32)
    (h : (⟨2, ![R, n]⟩ : Shape).Reduces [1] ⟨1, ![R]⟩) (hφ) (hacc) (hc : (⟨1, ![R]⟩ : Shape).ShapeCasts ⟨2, ![R, 1]⟩) (r : Fin R) :
    shapeCast ⟨2, ![R, 1]⟩ (multiReduction .maximumf [1] ⟨1, ![R]⟩ (absf v) 0xFF800000#32 h hφ hacc) hc (ix2 r (0 : Fin 1))
      = rowMax (fun k => v (ix2 r k)) :=
  (rowFoldCol_apply (absf v) 0xFF800000#32 h hφ hacc hc r).trans (rowMax_f32 fun k => v (ix2 r k))

/-- A product `[M, K] × [N, K]ᵀ` into zeros, at a position, is the product of two rows. -/
theorem matmul_apply {M K N : ℕ} {φ₁ φ₂ : FTy} (prec : Option ContractPrecision)
    (lhs : FVec Ideal ⟨2, ![M, K]⟩ φ₁) (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = dotp (fun k => lhs (ix2 r k)) (fun k => rhs (ix2 c k)) := by
  refine (Ideal.matmul_transposedRhs_apply prec lhs rhs _ r c).trans ?_
  show Ideal.ofBits .f32 0x00000000#32 + _ = _
  rw [Scale.zero_eq, zero_add]; rfl

end Cert.Layers
-- ==== Proof.Spec.lean ====
/- The three results as whole arrays, from the arrays they are computed from. Both programs are shown to end with these. -/
module

public import proofs.«01_k».proof.Proof.Layers

@[expose] public section

noncomputable section

namespace Cert.Spec

open Idealize.ShloMosaic
open Idealize.ShloMosaic.ValueIdx
open Cert.Layers

/-- Every token's codes. -/
def codesArr (x : (⟨2, ![8192, 5120]⟩ : Shape).Idx → EReal) : (⟨2, ![8192, 5120]⟩ : Shape).Idx → EReal :=
  fun i => codes (fun k : Fin 5120 => x (ix2 (i 0 : Fin 8192) k)) (i 1 : Fin 5120)

/-- Every token's scale. -/
def scaleArr (x : (⟨2, ![8192, 5120]⟩ : Shape).Idx → EReal) : (⟨2, ![8192, 1]⟩ : Shape).Idx → EReal :=
  fun i => scale (fun k : Fin 5120 => x (ix2 (i 0 : Fin 8192) k))

section Out

variable (c : (⟨2, ![8192, 5120]⟩ : Shape).Idx → EReal) (s : (⟨2, ![8192, 1]⟩ : Shape).Idx → EReal)
  (ids : (⟨2, ![8192, 2]⟩ : Shape).Idx → BitVec 32) (rw_ : (⟨2, ![8192, 2]⟩ : Shape).Idx → EReal)
  (w13 : (⟨3, ![4, 1536, 5120]⟩ : Shape).Idx → EReal) (s13 : (⟨2, ![4, 1536]⟩ : Shape).Idx → EReal)
  (w2 : (⟨3, ![4, 5120, 768]⟩ : Shape).Idx → EReal) (s2 : (⟨2, ![4, 5120]⟩ : Shape).Idx → EReal)

/-- Expert `e`'s hidden row for token `n`. -/
def hiddenAt (e : Fin 4) (n : Fin 8192) : Fin 768 → EReal :=
  hidden (fun k : Fin 5120 => c (ix2 n k)) (s (ix2 n (0 : Fin 1))) (fun j k => w13 (ix3 e j k)) (fun j => s13 (ix2 e j))

/-- Expert `e`'s share of element `d` of token `n`'s output. -/
def shareAt (e : Fin 4) (n : Fin 8192) (d : Fin 5120) : EReal :=
  share (hiddenAt c s w13 s13 e n) (fun k : Fin 768 => w2 (ix3 e d k)) (s2 (ix2 e d))
    (IntOp.cmpi .eq (ids (ix2 n (0 : Fin 2))) (BitVec.ofNat 32 e.val)) (IntOp.cmpi .eq (ids (ix2 n (1 : Fin 2))) (BitVec.ofNat 32 e.val))
    (rw_ (ix2 n (0 : Fin 2))) (rw_ (ix2 n (1 : Fin 2)))

/-- Every token's output: the four experts' shares added in order. -/
def outArr : (⟨2, ![8192, 5120]⟩ : Shape).Idx → EReal := fun i =>
  shareAt c s ids rw_ w13 s13 w2 s2 0 (i 0 : Fin 8192) (i 1 : Fin 5120) + shareAt c s ids rw_ w13 s13 w2 s2 1 (i 0 : Fin 8192) (i 1 : Fin 5120)
    + shareAt c s ids rw_ w13 s13 w2 s2 2 (i 0 : Fin 8192) (i 1 : Fin 5120) + shareAt c s ids rw_ w13 s13 w2 s2 3 (i 0 : Fin 8192) (i 1 : Fin 5120)

end Out

end Cert.Spec
-- ==== Proof.Value.QuantBlock.lean ====
/- The quantising call's block at one position: a row's codes and its scale. -/
module

public import proofs.«01_k».proof.Proof.Layers
public import proofs.«01_k».proof.Proof.KernelIdeal.QuantBody

@[expose] public section

noncomputable section

namespace Cert.KernelIdeal.Value

open Idealize.ShloMosaic
open Idealize.ShloMosaic.ValueIdx
open Cert.Layers
open Cert.KernelIdeal Cert.KernelIdeal.Gen Cert.KernelIdeal.Run

/-- The row's greatest magnitude times the constant nearest 1/448. -/
theorem k0_pay4_apply (x : Vec Ideal S256x5120 .bf16) (r : Fin 256) :
    k0_pay4 (F := Ideal) x (ix2 r (0 : Fin 1)) = rowMax (fun k : Fin 5120 => x (ix2 r k)) * Scale.ratio := by
  have e2 : k0_pay3 (F := Ideal) x = x := shapeCast_self _ _
  unfold k0_pay4
  generalize k0_pay3 (F := Ideal) x = y at e2
  subst e2
  have e := absMaxCol_bf16 y reduces_S256x5120_S256 (.inr rfl) rfl shapeCasts_S256_S256x1 r
  dsimp only
  rw [mulf_apply, extf_apply]
  rw [e]
  rfl

/-- The exponents found are the search's, on those products. -/
theorem k0_pay8_eq (x : Vec Ideal S256x5120 .bf16) :
    k0_pay8 (F := Ideal) x = vsearch (k0_pay4 (F := Ideal) (View.ld x r0_0)) := by
  unfold k0_pay8
  generalize View.ld x r0_0 = v
  unfold k0_pay7 k0_pay6 k0_pay5
  generalize k0_pay4 (F := Ideal) v = m
  rfl

/-- The exponent found for a row is the search's. -/
theorem k0_pay8_apply (x : Vec Ideal S256x5120 .bf16) (i : S256x1.Idx) :
    k0_pay8 (F := Ideal) x i = Scale.expoK (k0_pay4 (F := Ideal) (View.ld x r0_0) i) := by
  rw [k0_pay8_eq, vsearch_apply]

/-- The scale written for row `r` is the row's. -/
theorem out0_2_apply (x : Vec Ideal S256x5120 .bf16) (r : Fin 256) :
    out0_2 (F := Ideal) x (ix2 r 0) = scale (fun k : Fin 5120 => x (ix2 r k)) := by
  have e : out0_2 (F := Ideal) x = k0_pay1 (F := Ideal) (k0_pay8 x) := View.canon_unit_zero (funext fun a => by match a with | ⟨0, _⟩ => rfl | ⟨1, _⟩ => rfl) _ _
  have l : View.ld (Val := Elt Ideal) (e' := .bf16) x r0_0 = x := View.ld_unit_zero (funext fun a => by match a with | ⟨0, _⟩ => rfl | ⟨1, _⟩ => rfl) _ x
  rw [e]
  show Scale.fieldFloat (IntOp.addi (k0_pay8 (F := Ideal) x (ix2 r 0)) 127#32) = _
  rw [k0_pay8_apply, l, k0_pay4_apply]
  exact Scale.scale_eq _

/-- The codes written for row `r` are the row's. -/
theorem out0_1_apply (x : Vec Ideal S256x5120 .bf16) (r : Fin 256) (k : Fin 5120) :
    out0_1 (F := Ideal) x (ix2 r k) = codes (fun k : Fin 5120 => x (ix2 r k)) k := by
  have e : out0_1 (F := Ideal) x = k0_pay2 (F := Ideal) (k0_pay3 (View.ld x r0_0)) (k0_pay8 x) := View.canon_unit_zero (funext fun a => by match a with | ⟨0, _⟩ => rfl | ⟨1, _⟩ => rfl) _ _
  have l : View.ld (Val := Elt Ideal) (e' := .bf16) x r0_0 = x := View.ld_unit_zero (funext fun a => by match a with | ⟨0, _⟩ => rfl | ⟨1, _⟩ => rfl) _ x
  have e2 : k0_pay3 (F := Ideal) x = x := shapeCast_self _ _
  rw [e, l, e2]
  refine congrArg (fun z => clip (x (ix2 r k) * z)) ((broadcastTo_a1_ab_apply _ _ r k).trans ?_)
  show Scale.fieldFloat (IntOp.subi 127#32 (k0_pay8 (F := Ideal) x (ix2 r 0))) = _
  rw [k0_pay8_apply, l, k0_pay4_apply]
  exact Scale.inv_eq _

end Cert.KernelIdeal.Value
-- ==== Proof.Value.QuantArray.lean ====
/- The first call's results as arrays: the blocks cover them, and each row's block holds the row's codes and scale. -/
module

public import proofs.«01_k».proof.Proof.Spec
public import proofs.«01_k».proof.Proof.Value.QuantBlock
public import proofs.«01_k».proof.Proof.KernelIdeal.QuantBody
public import Idealize.ShloMosaic.Lib.Pipeline.ValueKit.Geometry

@[expose] public section

noncomputable section

namespace Cert.KernelIdeal.Value

open Idealize.ShloMosaic
open Idealize.ShloMosaic.ValueIdx
open Cert.Layers Cert.Spec
open Cert.KernelIdeal Cert.KernelIdeal.Gen Cert.KernelIdeal.Run

variable (V : (c : Dev nD) → (b : Ref sig .tc) → Buf (Elt Ideal) (c.tc.loc b))

/-- Point `t` takes block row `t` of each array. -/
theorem index0_0 : ∀ t : Fin cfg0.N, win0_0.index t = ![t.val, 0] := (by decide +kernel : ∀ t : Fin grid0.N, win0_0.index t = ![t.val, 0])
/-- The codes' block number at a point. -/
theorem index0_1 : ∀ t : Fin cfg0.N, win0_1.index t = ![t.val, 0] := (by decide +kernel : ∀ t : Fin grid0.N, win0_1.index t = ![t.val, 0])
/-- The scales' block number at a point. -/
theorem index0_2 : ∀ t : Fin cfg0.N, win0_2.index t = ![t.val, 0] := (by decide +kernel : ∀ t : Fin grid0.N, win0_2.index t = ![t.val, 0])

/-- A point is below 32. -/
theorem lt0 (t : Fin cfg0.N) : t.val < 32 := t.isLt

/-- Point `t`'s block of the tokens holds rows `256 t` to `256 t + 255`. -/
theorem iblk0_apply (c : Dev nD) (t : Fin cfg0.N) (r : Fin 256) (k : Fin 5120) :
    iblk0 V c 0 t (ix2 r k) = V c main_v0 (ix2 (⟨t.val * 256 + r.val, by have := lt0 t; omega⟩ : Fin 8192) k) := by
  unfold iblk0
  rw [View.read_apply]
  show V c main_v0 _ = _
  congr 1
  funext a
  apply Fin.ext
  match a with
  | ⟨0, _⟩ => show win0_0.index t 0 * 256 + 1 * r.val = t.val * 256 + r.val; rw [index0_0]; simp
  | ⟨1, _⟩ => show win0_0.index t 1 * 5120 + 1 * k.val = k.val; rw [index0_0]; simp

/-- The codes' array. -/
theorem arr0_1 (c : Dev nD) : (dat0 V c).arrAt 1 cfg0.N = codesArr (V c main_v0) := by
  refine (dat0 V c).arrAt_eq_of_covers 1 _ (by decide +kernel) fun t hf y => ?_
  show (dat0 V c).after 1 t y = _
  rw [after0_1]
  obtain ⟨r, k, rfl⟩ : ∃ (r : Fin 256) (k : Fin 5120), y = ix2 r k := ⟨y 0, y 1, by funext a; match a with | ⟨0, _⟩ => rfl | ⟨1, _⟩ => rfl⟩
  refine (out0_1_apply _ r k).trans ?_
  have e : ((cfg0.win 1).blk t).view.emb (ix2 r k) = ix2 (⟨t.val * 256 + r.val, by have := lt0 t; omega⟩ : Fin 8192) k := by
    funext a
    apply Fin.ext
    match a with
    | ⟨0, _⟩ => show win0_1.index t 0 * 256 + 1 * r.val = t.val * 256 + r.val; rw [index0_1]; simp
    | ⟨1, _⟩ => show win0_1.index t 1 * 5120 + 1 * k.val = k.val; rw [index0_1]; simp
  refine Eq.trans ?_ (congrArg (codesArr (V c main_v0)) e).symm
  show _ = codes (fun k : Fin 5120 => V c main_v0 (ix2 (⟨t.val * 256 + r.val, _⟩ : Fin 8192) k)) k
  exact congrArg (fun f => codes f k) (funext fun k => iblk0_apply V c t r k)

/-- The scales' array. -/
theorem arr0_2 (c : Dev nD) : (dat0 V c).arrAt 2 cfg0.N = scaleArr (V c main_v0) := by
  refine (dat0 V c).arrAt_eq_of_covers 2 _ (by decide +kernel) fun t hf y => ?_
  show (dat0 V c).after 2 t y = _
  rw [after0_2]
  obtain ⟨r, rfl⟩ : ∃ (r : Fin 256), y = ix2 r (0 : Fin 1) :=
    ⟨y 0, by funext a; match a with | ⟨0, _⟩ => rfl | ⟨1, _⟩ => exact Subsingleton.elim (α := Fin 1) _ _⟩
  refine (out0_2_apply _ r).trans ?_
  have e : ((cfg0.win 2).blk t).view.emb (ix2 r (0 : Fin 1)) = ix2 (⟨t.val * 256 + r.val, by have := lt0 t; omega⟩ : Fin 8192) (0 : Fin 1) := by
    funext a
    apply Fin.ext
    match a with
    | ⟨0, _⟩ => show win0_2.index t 0 * 256 + 1 * r.val = t.val * 256 + r.val; rw [index0_2]; simp
    | ⟨1, _⟩ => show win0_2.index t 1 * 1 + 1 * 0 = 0; rw [index0_2]; simp
  refine Eq.trans ?_ (congrArg (scaleArr (V c main_v0)) e).symm
  show _ = scale (fun k : Fin 5120 => V c main_v0 (ix2 (⟨t.val * 256 + r.val, _⟩ : Fin 8192) k))
  exact congrArg scale (funext fun k => iblk0_apply V c t r k)

end Cert.KernelIdeal.Value
-- ==== Proof.Value.MoeBlock.lean ====
/- The second call's body at one position: one expert's share of a block of tokens. -/
module

public import proofs.«01_k».proof.Proof.Layers
public import proofs.«01_k».proof.Proof.Gen.KernelIdeal.Skeleton

@[expose] public section

noncomputable section

namespace Cert.KernelIdeal.Value

open Idealize.ShloMosaic
open Idealize.ShloMosaic.ValueIdx
open Cert.Layers
open Cert.KernelIdeal Cert.KernelIdeal.Gen

/-- The first product contracts the last axis of both operands. -/
theorem dot13_eq : dot_S256x5120_S1536x5120_S256x1536_1_1_0_0_n_n = DotDims.transposedRhs 256 5120 1536 := rfl
/-- The second product contracts the last axis of both operands. -/
theorem dot2_eq : dot_S256x768_S5120x768_S256x5120_1_1_0_0_n_n = DotDims.transposedRhs 256 768 5120 := rfl

/-- The first product at a position: row `r` of the codes on row `j` of the expert's weights. -/
theorem mm13_apply (x : Vec Ideal S256x5120 .fp8e4m3) (w : Vec Ideal S1x1536x5120 .fp8e4m3) (r : Fin 256) (j : Fin 1536) :
    matmul (F := Ideal) (φ₁ := .fp8e4m3) (φ₂ := .fp8e4m3) dot_S256x5120_S1536x5120_S256x1536_1_1_0_0_n_n none
        (shapeCast S256x5120 x shapeCasts_S256x5120_S256x5120) (shapeCast S1536x5120 w shapeCasts_S1x1536x5120_S1536x5120)
        (constant S256x1536 .f32 0x00000000#32) (ix2 r j)
      = dotp (fun k : Fin 5120 => x (ix2 r k)) (fun k : Fin 5120 => w (ix3 (0 : Fin 1) j k)) := by
  rw [dot13_eq, shapeCast_self]
  refine (Layers.matmul_apply (φ₁ := .fp8e4m3) (φ₂ := .fp8e4m3) none x _ r j).trans ?_
  refine congrArg (dotp _) (funext fun k => ?_)
  exact shapeCast_1ab_ab_apply w _ j k

/-- The hidden block at a position. -/
theorem k1_pay5_apply (x : Vec Ideal S256x5120 .fp8e4m3) (s : Vec Ideal S256x1 .f32) (w : Vec Ideal S1x1536x5120 .fp8e4m3)
    (sg su : Vec Ideal S1x1x768 .f32) (r : Fin 256) (j : Fin 768) :
    k1_pay5 (F := Ideal) x s w sg su (ix2 r j)
      = act (proj (fun k : Fin 5120 => x (ix2 r k)) (s (ix2 r (0 : Fin 1)))
            (fun k : Fin 5120 => w (ix3 (0 : Fin 1) (⟨j.val, by omega⟩ : Fin 1536) k)) (sg (ix3 (0 : Fin 1) (0 : Fin 1) j)))
          (proj (fun k : Fin 5120 => x (ix2 r k)) (s (ix2 r (0 : Fin 1)))
            (fun k : Fin 5120 => w (ix3 (0 : Fin 1) (⟨768 + j.val, by omega⟩ : Fin 1536) k)) (su (ix3 (0 : Fin 1) (0 : Fin 1) j))) := by
  have eg := (slice2_axis1_apply 0 _ slices_S256x1536_o0_0_S256x768 r j ⟨j.val, by omega⟩ (Nat.zero_add _).symm).trans
    (mm13_apply x w r ⟨j.val, by omega⟩)
  have eu := (slice2_axis1_apply 768 _ slices_S256x1536_o0_768_S256x768 r j ⟨768 + j.val, by omega⟩ rfl).trans
    (mm13_apply x w r ⟨768 + j.val, by omega⟩)
  have es := (broadcastTo_a1_ab_apply (shapeCast S256x1 s shapeCasts_S256x1_S256x1) broadcasts_S256x1_S256x768 r j).trans
    (congrFun (shapeCast_self s shapeCasts_S256x1_S256x1) _)
  have e1 := (broadcastTo_1b_ab_apply (shapeCast S1x768 sg shapeCasts_S1x1x768_S1x768) broadcasts_S1x768_S256x768 r j).trans
    (shapeCast_1ab_ab_apply sg shapeCasts_S1x1x768_S1x768 0 j)
  have e2 := (broadcastTo_1b_ab_apply (shapeCast S1x768 su shapeCasts_S1x1x768_S1x768) broadcasts_S1x768_S256x768 r j).trans
    (shapeCast_1ab_ab_apply su shapeCasts_S1x1x768_S1x768 0 j)
  unfold k1_pay5
  simp only [mulf_apply, logistic_apply]
  rw [eg, eu, es, e1, e2]
  rfl

/-- Row `r`'s greatest hidden magnitude times the constant nearest 1/448. -/
theorem k1_pay6_apply (x : Vec Ideal S256x5120 .fp8e4m3) (s : Vec Ideal S256x1 .f32) (w : Vec Ideal S1x1536x5120 .fp8e4m3)
    (sg su : Vec Ideal S1x1x768 .f32) (r : Fin 256) :
    k1_pay6 (F := Ideal) x s w sg su (ix2 r (0 : Fin 1))
      = rowMax (fun j : Fin 768 => k1_pay5 (F := Ideal) x s w sg su (ix2 r j)) * Scale.ratio := by
  unfold k1_pay6
  generalize k1_pay5 (F := Ideal) x s w sg su = y
  have e := absMaxCol_f32 y reduces_S256x768_S256 (.inl rfl) rfl shapeCasts_S256_S256x1 r
  dsimp only
  rw [mulf_apply, e]
  rfl

/-- The exponents of a block of hidden rows, from their scaled greatest magnitudes `m`, as the body computes them in parts. -/
theorem k1_pay13_eq (m : FVec Ideal S256x1 .f32) (b : IVec S256x1 1)
    (hb : b = cmpf .oge m (bitcastToFloat .f32 (shli (addi (broadcast S256x1 0#32) (broadcast S256x1 126#32)) (broadcast S256x1 23#32)))) :
    k1_pay13 (F := Ideal) m (k1_pay10 m k1_pay7 b k1_pay9) (k1_pay11 m k1_pay7 b k1_pay9) (k1_pay12 m k1_pay7 b k1_pay9)
      = vsearch m := by
  subst hb
  unfold k1_pay13 k1_pay12 k1_pay11 k1_pay10 k1_pay9 k1_pay7
  rfl

section Hidden

variable (x : Vec Ideal S256x5120 .fp8e4m3) (s : Vec Ideal S256x1 .f32) (w : Vec Ideal S1x1536x5120 .fp8e4m3)
  (sg su : Vec Ideal S1x1x768 .f32)

/-- The hidden rows' scales, as the body computes them in parts. -/
def hidScale : FVec Ideal S256x1 .f32 :=
  k1_pay14 (F := Ideal) (k1_pay6 x s w sg su)
    (k1_pay10 (k1_pay6 x s w sg su) k1_pay7 (k1_pay8 x s w sg su) k1_pay9)
    (k1_pay11 (k1_pay6 x s w sg su) k1_pay7 (k1_pay8 x s w sg su) k1_pay9)
    (k1_pay12 (k1_pay6 x s w sg su) k1_pay7 (k1_pay8 x s w sg su) k1_pay9)

/-- The hidden rows' codes, as the body computes them in parts. -/
def hidCodes : FVec Ideal S256x768 .fp8e4m3 :=
  k1_pay15 (F := Ideal) (k1_pay5 x s w sg su) (k1_pay6 x s w sg su)
    (k1_pay10 (k1_pay6 x s w sg su) k1_pay7 (k1_pay8 x s w sg su) k1_pay9)
    (k1_pay11 (k1_pay6 x s w sg su) k1_pay7 (k1_pay8 x s w sg su) k1_pay9)
    (k1_pay12 (k1_pay6 x s w sg su) k1_pay7 (k1_pay8 x s w sg su) k1_pay9)

/-- A hidden row's scale is the row's. -/
theorem hidScale_apply (r : Fin 256) :
    hidScale x s w sg su (ix2 r (0 : Fin 1)) = scale (fun j : Fin 768 => k1_pay5 (F := Ideal) x s w sg su (ix2 r j)) := by
  have e := k1_pay13_eq (k1_pay6 x s w sg su) (k1_pay8 x s w sg su) rfl
  unfold hidScale k1_pay14
  rw [e]
  show Scale.fieldFloat (IntOp.addi (vsearch (k1_pay6 (F := Ideal) x s w sg su) (ix2 r (0 : Fin 1))) 127#32) = _
  rw [vsearch_apply, k1_pay6_apply]
  exact Scale.scale_eq _

/-- A hidden row's codes are the row's. -/
theorem hidCodes_apply (r : Fin 256) (j : Fin 768) :
    hidCodes x s w sg su (ix2 r j) = codes (fun j : Fin 768 => k1_pay5 (F := Ideal) x s w sg su (ix2 r j)) j := by
  have e := k1_pay13_eq (k1_pay6 x s w sg su) (k1_pay8 x s w sg su) rfl
  unfold hidCodes k1_pay15
  rw [e]
  refine congrArg (fun z => clip (k1_pay5 (F := Ideal) x s w sg su (ix2 r j) * z)) ((broadcastTo_a1_ab_apply _ _ r j).trans ?_)
  show Scale.fieldFloat (IntOp.subi 127#32 (vsearch (k1_pay6 (F := Ideal) x s w sg su) (ix2 r (0 : Fin 1)))) = _
  rw [vsearch_apply, k1_pay6_apply]
  exact Scale.inv_eq _

end Hidden

/-- The second product at a position. -/
theorem mm2_apply (x : FVec Ideal S256x768 .fp8e4m3) (w : Vec Ideal S1x5120x768 .fp8e4m3) (r : Fin 256) (d : Fin 5120) :
    matmul (F := Ideal) (φ₁ := .fp8e4m3) (φ₂ := .fp8e4m3) dot_S256x768_S5120x768_S256x5120_1_1_0_0_n_n none
        x (shapeCast S5120x768 w shapeCasts_S1x5120x768_S5120x768) (constant S256x5120 .f32 0x00000000#32) (ix2 r d)
      = dotp (fun k : Fin 768 => x (ix2 r k)) (fun k : Fin 768 => w (ix3 (0 : Fin 1) d k)) := by
  rw [dot2_eq]
  refine (Layers.matmul_apply (φ₁ := .fp8e4m3) (φ₂ := .fp8e4m3) none x _ r d).trans ?_
  refine congrArg (dotp _) (funext fun k => ?_)
  exact shapeCast_1ab_ab_apply w _ d k

/-- One expert's share of a block, at a position. -/
theorem k1_pay1_apply (e : BitVec 32) (hs : FVec Ideal S256x1 .f32) (hc : FVec Ideal S256x768 .fp8e4m3)
    (w : Vec Ideal S1x5120x768 .fp8e4m3) (ids : Vec Ideal S256x2 .i32) (rw_ : Vec Ideal S256x2 .f32) (s2 : Vec Ideal S1x1x5120 .f32)
    (r : Fin 256) (d : Fin 5120) :
    k1_pay1 (F := Ideal) e hs hc w ids rw_ s2 (ix2 r d)
      = Scalar.select (IntOp.ori (IntOp.cmpi .eq (ids (ix2 r (0 : Fin 2))) e) (IntOp.cmpi .eq (ids (ix2 r (1 : Fin 2))) e))
          (proj (fun k : Fin 768 => hc (ix2 r k)) (hs (ix2 r (0 : Fin 1))) (fun k : Fin 768 => w (ix3 (0 : Fin 1) d k))
              (s2 (ix3 (0 : Fin 1) (0 : Fin 1) d))
            * Scalar.select (IntOp.cmpi .eq (ids (ix2 r (0 : Fin 2))) e) (rw_ (ix2 r (0 : Fin 2))) (rw_ (ix2 r (1 : Fin 2))))
          (Ideal.ofBits .f32 0x00000000#32) := by
  have em := mm2_apply hc w r d
  have i0 := slice2_axis1_apply 0 ids slices_S256x2_o0_0_S256x1 r (0 : Fin 1) (0 : Fin 2) rfl
  have i1 := slice2_axis1_apply 1 ids slices_S256x2_o0_1_S256x1 r (0 : Fin 1) (1 : Fin 2) rfl
  have r0 := slice2_axis1_apply 0 rw_ slices_S256x2_o0_0_S256x1 r (0 : Fin 1) (0 : Fin 2) rfl
  have r1 := slice2_axis1_apply 1 rw_ slices_S256x2_o0_1_S256x1 r (0 : Fin 1) (1 : Fin 2) rfl
  have eh := broadcastTo_a1_ab_apply hs broadcasts_S256x1_S256x5120 r d
  have e2 := (broadcastTo_1b_ab_apply (shapeCast S1x5120 s2 shapeCasts_S1x1x5120_S1x5120) broadcasts_S1x5120_S256x5120 r d).trans
    (shapeCast_1ab_ab_apply s2 shapeCasts_S1x1x5120_S1x5120 0 d)
  unfold k1_pay1
  simp only [shapeCast_self]
  rw [select_apply, mulf_apply, mulf_apply, mulf_apply, em, eh, e2]
  rw [broadcastTo_a1_ab_apply, broadcastTo_a1_ab_apply]
  rw [select_apply]
  unfold proj
  show Scalar.select (IntOp.ori (IntOp.cmpi .eq _ e) (IntOp.cmpi .eq _ e)) (_ * Scalar.select (IntOp.cmpi .eq _ e) _ _) _ = _
  rw [i0, i1, r0, r1]
  rfl

end Cert.KernelIdeal.Value
-- ==== Proof.Value.MoeRead.lean ====
/- What the second call's body leaves after each point: the accumulator starts at the first expert's share, each later point adds its
   expert's share, and the last one's sum is the block written. -/
module

public import proofs.«01_k».proof.Proof.Value.MoeBlock
public import proofs.«01_k».proof.Proof.KernelIdeal.MoeBody

@[expose] public section

noncomputable section

namespace Cert.KernelIdeal.Value

open Idealize.ShloMosaic
open Idealize.ShloMosaic.ValueIdx
open Cert.Layers
open Cert.KernelIdeal Cert.KernelIdeal.Gen Cert.KernelIdeal.Run

/-- A load of a whole buffer's whole contents reads them. -/
theorem readAt_whole {S : Shape} {e : EltTy} (m : Memref sig .tc .vmem S e) (h : m.IsWhole) (x : S.Idx → Elt Ideal e)
    {off : Fin S.rank → Nat} (hoff : ∀ a, off a = 0) (inb : ∀ a, off a + S.size a ≤ S.size a) :
    View.readAt (Elt Ideal) m.view (Rect.unit off S.size inb).toLoadRect (h.unread x) = x := by
  rw [View.readAt_eq_ld, h.read_unread]
  exact View.ld_unit_zero (funext hoff) inb x

/-- A load of a part reads that part. -/
theorem readAt_part {S : Shape} {e : EltTy} (m : Memref sig .tc .vmem S e) (h : m.IsWhole) (x : S.Idx → Elt Ideal e) (r : Rect S) :
    View.readAt (Elt Ideal) m.view r.toLoadRect (h.unread x) = View.ld x r := by
  rw [View.readAt_eq_ld, h.read_unread]

/-- The two halves of an expert's first weight scales. -/
abbrev gateRect : Rect S1x1x1536 := Rect.unit (s := S1x1x1536) ![0, 0, 0] S1x1x768.size inb_S1x1x1536_S1x1x768_0_0_0
/-- The up half of the scales. -/
abbrev upRect : Rect S1x1x1536 := Rect.unit (s := S1x1x1536) ![0, 0, 768] S1x1x768.size inb_S1x1x1536_S1x1x768_0_0_768

/-- One expert's share of a block, from the block's inputs. -/
def blkShare (e : BitVec 32) (x0 : Vec Ideal S256x5120 .fp8e4m3) (x1 : Vec Ideal S256x1 .f32) (x2 : Vec Ideal S256x2 .i32)
    (x3 : Vec Ideal S256x2 .f32) (x4 : Vec Ideal S1x1536x5120 .fp8e4m3) (x5 : Vec Ideal S1x1x1536 .f32)
    (x6 : Vec Ideal S1x5120x768 .fp8e4m3) (x7 : Vec Ideal S1x1x5120 .f32) : FVec Ideal S256x5120 .f32 :=
  k1_pay1 (F := Ideal) e (hidScale x0 x1 x4 (View.ld x5 gateRect) (View.ld x5 upRect))
    (hidCodes x0 x1 x4 (View.ld x5 gateRect) (View.ld x5 upRect)) x6 x2 x3 x7

/-- No offset in two dimensions. -/
theorem z2 (a : Fin 2) : (![0, 0] : Fin 2 → ℕ) a = 0 := by fin_cases a <;> rfl
/-- No offset in three dimensions. -/
theorem z3 (a : Fin 3) : (![0, 0, 0] : Fin 3 → ℕ) a = 0 := by fin_cases a <;> rfl

/-- What the first point stores is the share. -/
theorem pay2_eq (e : BitVec 32) (hs : FVec Ideal S256x1 .f32) (hc : FVec Ideal S256x768 .fp8e4m3)
    (w : Vec Ideal S1x5120x768 .fp8e4m3) (ids : Vec Ideal S256x2 .i32) (rw_ : Vec Ideal S256x2 .f32) (s2 : Vec Ideal S1x1x5120 .f32) :
    k1_pay2 (F := Ideal) e hs hc w ids rw_ s2 = k1_pay1 (F := Ideal) e hs hc w ids rw_ s2 := shapeCast_self _ _

/-- What a later point stores is the accumulator plus the share. -/
theorem pay3_eq (e : BitVec 32) (hs : FVec Ideal S256x1 .f32) (hc : FVec Ideal S256x768 .fp8e4m3)
    (w : Vec Ideal S1x5120x768 .fp8e4m3) (ids : Vec Ideal S256x2 .i32) (rw_ : Vec Ideal S256x2 .f32) (s2 : Vec Ideal S1x1x5120 .f32)
    (a : Vec Ideal S256x5120 .f32) :
    k1_pay3 (F := Ideal) e hs hc w ids rw_ s2 a = addf (F := Ideal) (φ := .f32) a (k1_pay1 (F := Ideal) e hs hc w ids rw_ s2) :=
  shapeCast_self _ _

/-! ## The parts the three kinds of point name -/

/-- The hidden rows' scales that run A of the body computes. -/
theorem runA_hidScale (c : Dev nD) (arg2 : Memref sig .tc .vmem S256x5120 .fp8e4m3) (harg2 : arg2.IsWhole) (arg3 : Memref sig .tc .vmem S256x1 .f32) (harg3 : arg3.IsWhole) (arg6 : Memref sig .tc .vmem S1x1536x5120 .fp8e4m3) (harg6 : arg6.IsWhole) (arg7 : Memref sig .tc .vmem S1x1x1536 .f32) (harg7 : arg7.IsWhole)
    (x0 : Vec Ideal S256x5120 .fp8e4m3) (x1 : Vec Ideal S256x1 .f32) (x4 : Vec Ideal S1x1536x5120 .fp8e4m3) (x5 : Vec Ideal S1x1x1536 .f32) :
    kernelRun1_A.sl.r_6 (F := Ideal) c arg2 harg2 arg3 harg3 arg6 harg6 arg7 harg7 x0 x1 x4 x5
      = hidScale x0 x1 x4 (View.ld x5 gateRect) (View.ld x5 upRect) := by
  unfold kernelRun1_A.sl.r_6 kernelRun1_A.sl.r_5 kernelRun1_A.sl.r_4 kernelRun1_A.sl.r_3 kernelRun1_A.sl.r_2 kernelRun1_A.sl.r_1
  rw [readAt_whole arg2 harg2 x0 z2, readAt_whole arg3 harg3 x1 z2, readAt_whole arg6 harg6 x4 z3,
    readAt_part arg7 harg7 x5 gateRect, readAt_part arg7 harg7 x5 upRect]
  rfl

/-- The hidden rows' codes that run A of the body computes. -/
theorem runA_hidCodes (c : Dev nD) (arg2 : Memref sig .tc .vmem S256x5120 .fp8e4m3) (harg2 : arg2.IsWhole) (arg3 : Memref sig .tc .vmem S256x1 .f32) (harg3 : arg3.IsWhole) (arg6 : Memref sig .tc .vmem S1x1536x5120 .fp8e4m3) (harg6 : arg6.IsWhole) (arg7 : Memref sig .tc .vmem S1x1x1536 .f32) (harg7 : arg7.IsWhole)
    (x0 : Vec Ideal S256x5120 .fp8e4m3) (x1 : Vec Ideal S256x1 .f32) (x4 : Vec Ideal S1x1536x5120 .fp8e4m3) (x5 : Vec Ideal S1x1x1536 .f32) :
    kernelRun1_A.sl.r_7 (F := Ideal) c arg2 harg2 arg3 harg3 arg6 harg6 arg7 harg7 x0 x1 x4 x5
      = hidCodes x0 x1 x4 (View.ld x5 gateRect) (View.ld x5 upRect) := by
  unfold kernelRun1_A.sl.r_7 kernelRun1_A.sl.r_5 kernelRun1_A.sl.r_4 kernelRun1_A.sl.r_3 kernelRun1_A.sl.r_2 kernelRun1_A.sl.r_1 kernelRun1_A.sl.r
  rw [readAt_whole arg2 harg2 x0 z2, readAt_whole arg3 harg3 x1 z2, readAt_whole arg6 harg6 x4 z3,
    readAt_part arg7 harg7 x5 gateRect, readAt_part arg7 harg7 x5 upRect]
  rfl

/-- The hidden rows' scales that run B of the body computes. -/
theorem runB_hidScale (c : Dev nD) (arg2 : Memref sig .tc .vmem S256x5120 .fp8e4m3) (harg2 : arg2.IsWhole) (arg3 : Memref sig .tc .vmem S256x1 .f32) (harg3 : arg3.IsWhole) (arg6 : Memref sig .tc .vmem S1x1536x5120 .fp8e4m3) (harg6 : arg6.IsWhole) (arg7 : Memref sig .tc .vmem S1x1x1536 .f32) (harg7 : arg7.IsWhole)
    (x0 : Vec Ideal S256x5120 .fp8e4m3) (x1 : Vec Ideal S256x1 .f32) (x4 : Vec Ideal S1x1536x5120 .fp8e4m3) (x5 : Vec Ideal S1x1x1536 .f32) :
    kernelRun1_B.sl.r_6 (F := Ideal) c arg2 harg2 arg3 harg3 arg6 harg6 arg7 harg7 x0 x1 x4 x5
      = hidScale x0 x1 x4 (View.ld x5 gateRect) (View.ld x5 upRect) := by
  unfold kernelRun1_B.sl.r_6 kernelRun1_B.sl.r_5 kernelRun1_B.sl.r_4 kernelRun1_B.sl.r_3 kernelRun1_B.sl.r_2 kernelRun1_B.sl.r_1
  rw [readAt_whole arg2 harg2 x0 z2, readAt_whole arg3 harg3 x1 z2, readAt_whole arg6 harg6 x4 z3,
    readAt_part arg7 harg7 x5 gateRect, readAt_part arg7 harg7 x5 upRect]
  rfl

/-- The hidden rows' codes that run B of the body computes. -/
theorem runB_hidCodes (c : Dev nD) (arg2 : Memref sig .tc .vmem S256x5120 .fp8e4m3) (harg2 : arg2.IsWhole) (arg3 : Memref sig .tc .vmem S256x1 .f32) (harg3 : arg3.IsWhole) (arg6 : Memref sig .tc .vmem S1x1536x5120 .fp8e4m3) (harg6 : arg6.IsWhole) (arg7 : Memref sig .tc .vmem S1x1x1536 .f32) (harg7 : arg7.IsWhole)
    (x0 : Vec Ideal S256x5120 .fp8e4m3) (x1 : Vec Ideal S256x1 .f32) (x4 : Vec Ideal S1x1536x5120 .fp8e4m3) (x5 : Vec Ideal S1x1x1536 .f32) :
    kernelRun1_B.sl.r_7 (F := Ideal) c arg2 harg2 arg3 harg3 arg6 harg6 arg7 harg7 x0 x1 x4 x5
      = hidCodes x0 x1 x4 (View.ld x5 gateRect) (View.ld x5 upRect) := by
  unfold kernelRun1_B.sl.r_7 kernelRun1_B.sl.r_5 kernelRun1_B.sl.r_4 kernelRun1_B.sl.r_3 kernelRun1_B.sl.r_2 kernelRun1_B.sl.r_1 kernelRun1_B.sl.r
  rw [readAt_whole arg2 harg2 x0 z2, readAt_whole arg3 harg3 x1 z2, readAt_whole arg6 harg6 x4 z3,
    readAt_part arg7 harg7 x5 gateRect, readAt_part arg7 harg7 x5 upRect]
  rfl

/-- The hidden rows' scales that run C of the body computes. -/
theorem runC_hidScale (c : Dev nD) (arg2 : Memref sig .tc .vmem S256x5120 .fp8e4m3) (harg2 : arg2.IsWhole) (arg3 : Memref sig .tc .vmem S256x1 .f32) (harg3 : arg3.IsWhole) (arg6 : Memref sig .tc .vmem S1x1536x5120 .fp8e4m3) (harg6 : arg6.IsWhole) (arg7 : Memref sig .tc .vmem S1x1x1536 .f32) (harg7 : arg7.IsWhole)
    (x0 : Vec Ideal S256x5120 .fp8e4m3) (x1 : Vec Ideal S256x1 .f32) (x4 : Vec Ideal S1x1536x5120 .fp8e4m3) (x5 : Vec Ideal S1x1x1536 .f32) :
    kernelRun1_C.sl.r_6 (F := Ideal) c arg2 harg2 arg3 harg3 arg6 harg6 arg7 harg7 x0 x1 x4 x5
      = hidScale x0 x1 x4 (View.ld x5 gateRect) (View.ld x5 upRect) := by
  unfold kernelRun1_C.sl.r_6 kernelRun1_C.sl.r_5 kernelRun1_C.sl.r_4 kernelRun1_C.sl.r_3 kernelRun1_C.sl.r_2 kernelRun1_C.sl.r_1
  rw [readAt_whole arg2 harg2 x0 z2, readAt_whole arg3 harg3 x1 z2, readAt_whole arg6 harg6 x4 z3,
    readAt_part arg7 harg7 x5 gateRect, readAt_part arg7 harg7 x5 upRect]
  rfl

/-- The hidden rows' codes that run C of the body computes. -/
theorem runC_hidCodes (c : Dev nD) (arg2 : Memref sig .tc .vmem S256x5120 .fp8e4m3) (harg2 : arg2.IsWhole) (arg3 : Memref sig .tc .vmem S256x1 .f32) (harg3 : arg3.IsWhole) (arg6 : Memref sig .tc .vmem S1x1536x5120 .fp8e4m3) (harg6 : arg6.IsWhole) (arg7 : Memref sig .tc .vmem S1x1x1536 .f32) (harg7 : arg7.IsWhole)
    (x0 : Vec Ideal S256x5120 .fp8e4m3) (x1 : Vec Ideal S256x1 .f32) (x4 : Vec Ideal S1x1536x5120 .fp8e4m3) (x5 : Vec Ideal S1x1x1536 .f32) :
    kernelRun1_C.sl.r_7 (F := Ideal) c arg2 harg2 arg3 harg3 arg6 harg6 arg7 harg7 x0 x1 x4 x5
      = hidCodes x0 x1 x4 (View.ld x5 gateRect) (View.ld x5 upRect) := by
  unfold kernelRun1_C.sl.r_7 kernelRun1_C.sl.r_5 kernelRun1_C.sl.r_4 kernelRun1_C.sl.r_3 kernelRun1_C.sl.r_2 kernelRun1_C.sl.r_1 kernelRun1_C.sl.r
  rw [readAt_whole arg2 harg2 x0 z2, readAt_whole arg3 harg3 x1 z2, readAt_whole arg6 harg6 x4 z3,
    readAt_part arg7 harg7 x5 gateRect, readAt_part arg7 harg7 x5 upRect]
  rfl

/-! ## After each point -/

variable (V : (c : Dev nD) → (b : Ref sig .tc) → Buf (Elt Ideal) (c.tc.loc b))

/-- The share of point `t`. -/
def ptShare (c : Dev nD) (t : Fin cfg1.N) : FVec Ideal S256x5120 .f32 :=
  blkShare (BitVec.ofNat 32 (grid1.coords t 1).val) (iblk1 V c 0 t) (iblk1 V c 1 t) (iblk1 V c 2 t) (iblk1 V c 3 t) (iblk1 V c 4 t) (iblk1 V c 5 t) (iblk1 V c 6 t) (iblk1 V c 7 t)

/-- At a block's first point the accumulator is left at the point's share. -/
theorem acc_A (c : Dev nD) (t : Fin cfg1.N) (h0 : t.val % 4 = 0) (h1 : ¬1 ≤ t.val % 4) (h2 : ¬t.val % 4 = 3) :
    (outsAt1 V c t.val t.isLt).2 = ptShare V c t := by
  rw [outsAt1_A V c t h0 h1 h2]
  dsimp only
  unfold sout1_A_0 kernelRun1_A
  dsimp only
  rw [View.read_writes_junk_eq_canon]
  refine (View.canon_unit_zero (S := S256x5120) (funext z2) _ _).trans ?_
  rw [runA_hidScale, runA_hidCodes]
  rw [pay2_eq]
  refine (congr (congr (congr (congrArg _ ?_) ?_) ?_) ?_)
  · exact readAt_whole (S := S1x5120x768) _ _ _ z3 _
  · exact readAt_whole (S := S256x2) _ _ _ z2 _
  · exact readAt_whole (S := S256x2) _ _ _ z2 _
  · exact readAt_whole (S := S1x1x5120) _ _ _ z3 _

/-- At a later point it is what the point before left, plus the point's share. -/
theorem acc_B (c : Dev nD) (t : Fin cfg1.N) (h0 : ¬t.val % 4 = 0) (h1 : 1 ≤ t.val % 4) (h2 : ¬t.val % 4 = 3) :
    (outsAt1 V c t.val t.isLt).2 = addf (F := Ideal) (φ := .f32) (outsAt1 V c (t.val - 1) (by omega)).2 (ptShare V c t) := by
  rw [outsAt1_B V c t h0 h1 h2]
  dsimp only
  unfold sout1_B_0 kernelRun1_B
  dsimp only
  rw [View.read_writes_junk_eq_canon]
  refine (View.canon_unit_zero (S := S256x5120) (funext z2) _ _).trans ?_
  rw [runB_hidScale, runB_hidCodes]
  rw [pay3_eq]
  refine congrArg₂ (addf (F := Ideal) (φ := .f32)) ?_ ?_
  · exact readAt_whole (S := S256x5120) _ _ _ z2 _
  refine (congr (congr (congr (congrArg _ ?_) ?_) ?_) ?_)
  · exact readAt_whole (S := S1x5120x768) _ _ _ z3 _
  · exact readAt_whole (S := S256x2) _ _ _ z2 _
  · exact readAt_whole (S := S256x2) _ _ _ z2 _
  · exact readAt_whole (S := S1x1x5120) _ _ _ z3 _

/-- At a block's last point the block written is what the point before left, plus the point's share. -/
theorem out_C (c : Dev nD) (t : Fin cfg1.N) (h0 : ¬t.val % 4 = 0) (h1 : 1 ≤ t.val % 4) (h2 : t.val % 4 = 3) :
    (outsAt1 V c t.val t.isLt).1
      = truncf (F := Ideal) (φ := .f32) .bf16 (addf (F := Ideal) (φ := .f32) (outsAt1 V c (t.val - 1) (by omega)).2 (ptShare V c t))
          bitsLt_bf16_f32 := by
  rw [outsAt1_C V c t h0 h1 h2]
  dsimp only
  unfold out1_C_8 kernelRun1_C
  dsimp only
  rw [View.read_writes_junk_eq_canon]
  refine (View.canon_unit_zero (S := S256x5120) (funext z2) _ _).trans ?_
  unfold k1_pay4
  refine congrArg (fun y => truncf (F := Ideal) (φ := .f32) .bf16 y bitsLt_bf16_f32) ?_
  unfold kernelRun1_C.sl.v163 kernelRun1_C.sl.HS0_1
  refine (View.readCov_unit_zero (S := S256x5120) _ (funext z2) _ _).trans ?_
  rw [runC_hidScale, runC_hidCodes]
  rw [pay3_eq]
  refine congrArg₂ (addf (F := Ideal) (φ := .f32)) ?_ ?_
  · exact readAt_whole (S := S256x5120) _ _ _ z2 _
  refine (congr (congr (congr (congrArg _ ?_) ?_) ?_) ?_)
  · exact readAt_whole (S := S1x5120x768) _ _ _ z3 _
  · exact readAt_whole (S := S256x2) _ _ _ z2 _
  · exact readAt_whole (S := S256x2) _ _ _ z2 _
  · exact readAt_whole (S := S1x1x5120) _ _ _ z3 _

end Cert.KernelIdeal.Value
-- ==== Proof.Value.MoeArray.lean ====
/- The second call's result as an array: each block of rows is written at the last expert, when it holds the sum of the four shares. -/
module

public import proofs.«01_k».proof.Proof.Spec
public import proofs.«01_k».proof.Proof.Value.MoeRead
public import Idealize.ShloMosaic.Lib.Pipeline.ValueKit.Geometry

@[expose] public section

noncomputable section

namespace Cert.KernelIdeal.Value

open Idealize.ShloMosaic
open Idealize.ShloMosaic.ValueIdx
open Cert.Layers Cert.Spec
open Cert.KernelIdeal Cert.KernelIdeal.Gen Cert.KernelIdeal.Run

/-! ## The blocks at coordinates -/

/-- Point `t` takes block row `t / 4` of the token arrays and expert `t % 4` of the weights. -/
theorem index1_0 : ∀ t : Fin cfg1.N, win1_0.index t = ![t.val / 4, 0] := (by decide +kernel : ∀ t : Fin grid1.N, win1_0.index t = ![t.val / 4, 0])
/-- Window 1's block number at a point. -/
theorem index1_1 : ∀ t : Fin cfg1.N, win1_1.index t = ![t.val / 4, 0] := (by decide +kernel : ∀ t : Fin grid1.N, win1_1.index t = ![t.val / 4, 0])
/-- Window 2's block number at a point. -/
theorem index1_2 : ∀ t : Fin cfg1.N, win1_2.index t = ![t.val / 4, 0] := (by decide +kernel : ∀ t : Fin grid1.N, win1_2.index t = ![t.val / 4, 0])
/-- Window 3's block number at a point. -/
theorem index1_3 : ∀ t : Fin cfg1.N, win1_3.index t = ![t.val / 4, 0] := (by decide +kernel : ∀ t : Fin grid1.N, win1_3.index t = ![t.val / 4, 0])
/-- Window 4's block number at a point. -/
theorem index1_4 : ∀ t : Fin cfg1.N, win1_4.index t = ![t.val % 4, 0, 0] := (by decide +kernel : ∀ t : Fin grid1.N, win1_4.index t = ![t.val % 4, 0, 0])
/-- Window 5's block number at a point. -/
theorem index1_5 : ∀ t : Fin cfg1.N, win1_5.index t = ![t.val % 4, 0, 0] := (by decide +kernel : ∀ t : Fin grid1.N, win1_5.index t = ![t.val % 4, 0, 0])
/-- Window 6's block number at a point. -/
theorem index1_6 : ∀ t : Fin cfg1.N, win1_6.index t = ![t.val % 4, 0, 0] := (by decide +kernel : ∀ t : Fin grid1.N, win1_6.index t = ![t.val % 4, 0, 0])
/-- Window 7's block number at a point. -/
theorem index1_7 : ∀ t : Fin cfg1.N, win1_7.index t = ![t.val % 4, 0, 0] := (by decide +kernel : ∀ t : Fin grid1.N, win1_7.index t = ![t.val % 4, 0, 0])
/-- Window 8's block number at a point. -/
theorem index1_8 : ∀ t : Fin cfg1.N, win1_8.index t = ![t.val / 4, 0] := (by decide +kernel : ∀ t : Fin grid1.N, win1_8.index t = ![t.val / 4, 0])
/-- A point's expert. -/
theorem expert1 : ∀ t : Fin cfg1.N, (grid1.coords t 1).val = t.val % 4 := (by decide +kernel : ∀ t : Fin grid1.N, (grid1.coords t 1).val = t.val % 4)
/-- The output is written back at the last expert of each block of rows. -/
theorem flush1_last : ∀ t : Fin cfg1.N, (cfg1.win 8).flush t = true → t.val % 4 = 3 :=
  (by decide +kernel : ∀ t : Fin grid1.N, win1_8.flush t = true → t.val % 4 = 3)

/-- A point is below 128. -/
theorem lt1 (t : Fin cfg1.N) : t.val < 128 := t.isLt

/-- The token in row `r` of point `t`'s block. -/
def tok (t : Fin cfg1.N) (r : Fin 256) : Fin 8192 := ⟨t.val / 4 * 256 + r.val, by have := lt1 t; omega⟩
/-- Point `t`'s expert. -/
def expert (t : Fin cfg1.N) : Fin 4 := ⟨t.val % 4, by omega⟩

section Blocks

variable (V : (c : Dev nD) → (b : Ref sig .tc) → Buf (Elt Ideal) ((c.tc : Thread nD τ).loc b)) (c : Dev nD) (t : Fin cfg1.N)

/-- A block's codes. -/
theorem iblk1_0 (r : Fin 256) (k : Fin 5120) : iblk1 V c 0 t (ix2 r k) = V c main_v1_0 (ix2 (tok t r) k) := by
  unfold iblk1
  rw [View.read_apply]
  show V c main_v1_0 _ = _
  congr 1
  funext a
  apply Fin.ext
  match a with
  | ⟨0, _⟩ => show win1_0.index t 0 * 256 + 1 * r.val = t.val / 4 * 256 + r.val; rw [index1_0]; simp
  | ⟨1, _⟩ => show win1_0.index t 1 * 5120 + 1 * k.val = k.val; rw [index1_0]; simp

/-- A block's scales. -/
theorem iblk1_1 (r : Fin 256) : iblk1 V c 1 t (ix2 r (0 : Fin 1)) = V c main_v1_1 (ix2 (tok t r) (0 : Fin 1)) := by
  unfold iblk1
  rw [View.read_apply]
  show V c main_v1_1 _ = _
  congr 1
  funext a
  apply Fin.ext
  match a with
  | ⟨0, _⟩ => show win1_1.index t 0 * 256 + 1 * r.val = t.val / 4 * 256 + r.val; rw [index1_1]; simp
  | ⟨1, _⟩ => show win1_1.index t 1 * 1 + 1 * 0 = 0; rw [index1_1]; simp

/-- A block's expert numbers. -/
theorem iblk1_2 (r : Fin 256) (k : Fin 2) : iblk1 V c 2 t (ix2 r k) = V c main_v2 (ix2 (tok t r) k) := by
  unfold iblk1
  rw [View.read_apply]
  show V c main_v2 _ = _
  congr 1
  funext a
  apply Fin.ext
  match a with
  | ⟨0, _⟩ => show win1_2.index t 0 * 256 + 1 * r.val = t.val / 4 * 256 + r.val; rw [index1_2]; simp
  | ⟨1, _⟩ => show win1_2.index t 1 * 2 + 1 * k.val = k.val; rw [index1_2]; simp

/-- A block's routing weights. -/
theorem iblk1_3 (r : Fin 256) (k : Fin 2) : iblk1 V c 3 t (ix2 r k) = V c main_v3 (ix2 (tok t r) k) := by
  unfold iblk1
  rw [View.read_apply]
  show V c main_v3 _ = _
  congr 1
  funext a
  apply Fin.ext
  match a with
  | ⟨0, _⟩ => show win1_3.index t 0 * 256 + 1 * r.val = t.val / 4 * 256 + r.val; rw [index1_3]; simp
  | ⟨1, _⟩ => show win1_3.index t 1 * 2 + 1 * k.val = k.val; rw [index1_3]; simp

/-- A block's first weights. -/
theorem iblk1_4 (j : Fin 1536) (k : Fin 5120) : iblk1 V c 4 t (ix3 (0 : Fin 1) j k) = V c main_arg3 (ix3 (expert t) j k) := by
  unfold iblk1
  rw [View.read_apply]
  show V c main_arg3 _ = _
  congr 1
  funext a
  apply Fin.ext
  match a with
  | ⟨0, _⟩ => show win1_4.index t 0 * 1 + 1 * 0 = t.val % 4; rw [index1_4]; simp
  | ⟨1, _⟩ => show win1_4.index t 1 * 1536 + 1 * j.val = j.val; rw [index1_4]; simp
  | ⟨2, _⟩ => show win1_4.index t 2 * 5120 + 1 * k.val = k.val; rw [index1_4]; simp

/-- A block's first weights' scales. -/
theorem iblk1_5 (j : Fin 1536) : iblk1 V c 5 t (ix3 (0 : Fin 1) (0 : Fin 1) j) = V c main_v4 (ix3 (expert t) (0 : Fin 1) j) := by
  unfold iblk1
  rw [View.read_apply]
  show V c main_v4 _ = _
  congr 1
  funext a
  apply Fin.ext
  match a with
  | ⟨0, _⟩ => show win1_5.index t 0 * 1 + 1 * 0 = t.val % 4; rw [index1_5]; simp
  | ⟨1, _⟩ => show win1_5.index t 1 * 1 + 1 * 0 = 0; rw [index1_5]; simp
  | ⟨2, _⟩ => show win1_5.index t 2 * 1536 + 1 * j.val = j.val; rw [index1_5]; simp

/-- A block's second weights. -/
theorem iblk1_6 (d : Fin 5120) (k : Fin 768) : iblk1 V c 6 t (ix3 (0 : Fin 1) d k) = V c main_arg5 (ix3 (expert t) d k) := by
  unfold iblk1
  rw [View.read_apply]
  show V c main_arg5 _ = _
  congr 1
  funext a
  apply Fin.ext
  match a with
  | ⟨0, _⟩ => show win1_6.index t 0 * 1 + 1 * 0 = t.val % 4; rw [index1_6]; simp
  | ⟨1, _⟩ => show win1_6.index t 1 * 5120 + 1 * d.val = d.val; rw [index1_6]; simp
  | ⟨2, _⟩ => show win1_6.index t 2 * 768 + 1 * k.val = k.val; rw [index1_6]; simp

/-- A block's second weights' scales. -/
theorem iblk1_7 (d : Fin 5120) : iblk1 V c 7 t (ix3 (0 : Fin 1) (0 : Fin 1) d) = V c main_v5 (ix3 (expert t) (0 : Fin 1) d) := by
  unfold iblk1
  rw [View.read_apply]
  show V c main_v5 _ = _
  congr 1
  funext a
  apply Fin.ext
  match a with
  | ⟨0, _⟩ => show win1_7.index t 0 * 1 + 1 * 0 = t.val % 4; rw [index1_7]; simp
  | ⟨1, _⟩ => show win1_7.index t 1 * 1 + 1 * 0 = 0; rw [index1_7]; simp
  | ⟨2, _⟩ => show win1_7.index t 2 * 5120 + 1 * d.val = d.val; rw [index1_7]; simp

/-! ## One point's share -/

/-- The first weights' scales as a matrix, expert by row. -/
def s13Of : (⟨2, ![4, 1536]⟩ : Shape).Idx → EReal := fun i => V c main_v4 (ix3 (i 0 : Fin 4) (0 : Fin 1) (i 1 : Fin 1536))
/-- The second weights' scales as a matrix, expert by row. -/
def s2Of : (⟨2, ![4, 5120]⟩ : Shape).Idx → EReal := fun i => V c main_v5 (ix3 (i 0 : Fin 4) (0 : Fin 1) (i 1 : Fin 5120))

/-- At a position. -/
theorem s13Of_apply (e : Fin 4) (j : Fin 1536) : s13Of V c (ix2 e j) = V c main_v4 (ix3 e (0 : Fin 1) j) := rfl
/-- At a position. -/
theorem s2Of_apply (e : Fin 4) (d : Fin 5120) : s2Of V c (ix2 e d) = V c main_v5 (ix3 e (0 : Fin 1) d) := rfl

/-- Position `j` of the gate half of the scales is position `j`, of the up half position `768 + j`. -/
theorem ld_gate (x : Vec Ideal S1x1x1536 .f32) (j : Fin 768) :
    View.ld x gateRect (ix3 (0 : Fin 1) (0 : Fin 1) j) = x (ix3 (0 : Fin 1) (0 : Fin 1) (⟨j.val, by omega⟩ : Fin 1536)) := by
  show x _ = x _
  congr 1
  funext a
  apply Fin.ext
  match a with
  | ⟨0, _⟩ => rfl
  | ⟨1, _⟩ => rfl
  | ⟨2, _⟩ => show 0 + 1 * j.val = j.val; omega

/-- Position `j` of the up half of the scales is position `768 + j`. -/
theorem ld_up (x : Vec Ideal S1x1x1536 .f32) (j : Fin 768) :
    View.ld x upRect (ix3 (0 : Fin 1) (0 : Fin 1) j) = x (ix3 (0 : Fin 1) (0 : Fin 1) (⟨768 + j.val, by omega⟩ : Fin 1536)) := by
  show x _ = x _
  congr 1
  funext a
  apply Fin.ext
  match a with
  | ⟨0, _⟩ => rfl
  | ⟨1, _⟩ => rfl
  | ⟨2, _⟩ => show 768 + 1 * j.val = 768 + j.val; omega

/-- A block's share at a position, from the block's inputs at positions. -/
theorem blkShare_apply (e : BitVec 32) (x0 : Vec Ideal S256x5120 .fp8e4m3) (x1 : Vec Ideal S256x1 .f32) (x2 : Vec Ideal S256x2 .i32)
    (x3 : Vec Ideal S256x2 .f32) (x4 : Vec Ideal S1x1536x5120 .fp8e4m3) (x5 : Vec Ideal S1x1x1536 .f32)
    (x6 : Vec Ideal S1x5120x768 .fp8e4m3) (x7 : Vec Ideal S1x1x5120 .f32) (r : Fin 256) (d : Fin 5120) :
    blkShare e x0 x1 x2 x3 x4 x5 x6 x7 (ix2 r d)
      = share (Cert.Layers.hidden (fun k : Fin 5120 => x0 (ix2 r k)) (x1 (ix2 r (0 : Fin 1))) (fun j k => x4 (ix3 (0 : Fin 1) j k))
            (fun j => x5 (ix3 (0 : Fin 1) (0 : Fin 1) j)))
          (fun k : Fin 768 => x6 (ix3 (0 : Fin 1) d k)) (x7 (ix3 (0 : Fin 1) (0 : Fin 1) d))
          (IntOp.cmpi .eq (x2 (ix2 r (0 : Fin 2))) e) (IntOp.cmpi .eq (x2 (ix2 r (1 : Fin 2))) e) (x3 (ix2 r (0 : Fin 2))) (x3 (ix2 r (1 : Fin 2))) := by
  have h : (fun j : Fin 768 => k1_pay5 (F := Ideal) x0 x1 x4 (View.ld x5 gateRect) (View.ld x5 upRect) (ix2 r j))
      = Cert.Layers.hidden (fun k : Fin 5120 => x0 (ix2 r k)) (x1 (ix2 r (0 : Fin 1))) (fun j k => x4 (ix3 (0 : Fin 1) j k))
            (fun j => x5 (ix3 (0 : Fin 1) (0 : Fin 1) j)) := funext fun j => by
    rw [k1_pay5_apply, ld_gate, ld_up]
    rfl
  unfold blkShare
  refine (k1_pay1_apply _ _ _ _ _ _ _ r d).trans ?_
  simp only [hidScale_apply, hidCodes_apply]
  rw [h]
  rfl

/-- A block's share is the token's at the point's expert. -/
theorem ptShare_apply (r : Fin 256) (d : Fin 5120) :
    ptShare V c t (ix2 r d) = shareAt (V c main_v1_0) (V c main_v1_1) (V c main_v2) (V c main_v3) (V c main_arg3) (s13Of V c)
      (V c main_arg5) (s2Of V c) (expert t) (tok t r) d := by
  unfold ptShare
  refine (blkShare_apply _ _ _ _ _ _ _ _ _ r d).trans ?_
  simp only [iblk1_0, iblk1_1, iblk1_2, iblk1_3, iblk1_4, iblk1_5, iblk1_6, iblk1_7, expert1]
  unfold shareAt hiddenAt
  simp only [s2Of_apply, s13Of_apply]
  rfl

end Blocks

/-! ## The array -/

section Array

variable (V : (c : Dev nD) → (b : Ref sig .tc) → Buf (Elt Ideal) ((c.tc : Thread nD τ).loc b)) (c : Dev nD)

/-- At a block's last point the block written holds the four experts' shares, added in order. -/
theorem last_apply (t : Fin cfg1.N) (h3 : t.val % 4 = 3) (r : Fin 256) (d : Fin 5120) :
    (outsAt1 V c t.val t.isLt).1 (ix2 r d) = outArr (V c main_v1_0) (V c main_v1_1) (V c main_v2) (V c main_v3) (V c main_arg3) (s13Of V c)
      (V c main_arg5) (s2Of V c) (ix2 (tok t r) d) := by
  have ht := lt1 t
  have a1 : t.val - 1 < cfg1.N := Nat.lt_of_le_of_lt (Nat.sub_le _ _) t.isLt
  have a2 : t.val - 1 - 1 < cfg1.N := Nat.lt_of_le_of_lt (Nat.sub_le _ _) a1
  have a3 : t.val - 1 - 1 - 1 < cfg1.N := Nat.lt_of_le_of_lt (Nat.sub_le _ _) a2
  rw [out_C V c t (by omega) (by omega) h3]
  have e2 := acc_B V c ⟨t.val - 1, a1⟩ (by dsimp only; omega) (by dsimp only; omega) (by dsimp only; omega)
  have e1 := acc_B V c ⟨t.val - 1 - 1, a2⟩ (by dsimp only; omega) (by dsimp only; omega) (by dsimp only; omega)
  have e0 := acc_A V c ⟨t.val - 1 - 1 - 1, a3⟩ (by dsimp only; omega) (by dsimp only; omega) (by dsimp only; omega)
  dsimp only at e2 e1 e0
  rw [e2, e1, e0]
  have p0 := ptShare_apply V c ⟨t.val - 1 - 1 - 1, a3⟩ r d
  have p1 := ptShare_apply V c ⟨t.val - 1 - 1, a2⟩ r d
  have p2 := ptShare_apply V c ⟨t.val - 1, a1⟩ r d
  have p3 := ptShare_apply V c t r d
  have x0 : expert ⟨t.val - 1 - 1 - 1, a3⟩ = 0 := Fin.ext (show (t.val - 1 - 1 - 1) % 4 = 0 by omega)
  have x1 : expert ⟨t.val - 1 - 1, a2⟩ = 1 := Fin.ext (show (t.val - 1 - 1) % 4 = 1 by omega)
  have x2 : expert ⟨t.val - 1, a1⟩ = 2 := Fin.ext (show (t.val - 1) % 4 = 2 by omega)
  have x3 : expert t = 3 := Fin.ext (show t.val % 4 = 3 by omega)
  have n0 : tok ⟨t.val - 1 - 1 - 1, a3⟩ r = tok t r := Fin.ext (show (t.val - 1 - 1 - 1) / 4 * 256 + r.val = t.val / 4 * 256 + r.val by omega)
  have n1 : tok ⟨t.val - 1 - 1, a2⟩ r = tok t r := Fin.ext (show (t.val - 1 - 1) / 4 * 256 + r.val = t.val / 4 * 256 + r.val by omega)
  have n2 : tok ⟨t.val - 1, a1⟩ r = tok t r := Fin.ext (show (t.val - 1) / 4 * 256 + r.val = t.val / 4 * 256 + r.val by omega)
  rw [x0, n0] at p0
  rw [x1, n1] at p1
  rw [x2, n2] at p2
  rw [x3] at p3
  show ptShare V c ⟨t.val - 1 - 1 - 1, a3⟩ (ix2 r d) + ptShare V c ⟨t.val - 1 - 1, a2⟩ (ix2 r d) + ptShare V c ⟨t.val - 1, a1⟩ (ix2 r d)
    + ptShare V c t (ix2 r d) = _
  rw [p0, p1, p2, p3]
  rfl

/-- The output's array. -/
theorem arr1_8 : (dat1 V c).arrAt 8 cfg1.N = outArr (V c main_v1_0) (V c main_v1_1) (V c main_v2) (V c main_v3) (V c main_arg3) (s13Of V c)
      (V c main_arg5) (s2Of V c) := by
  refine (dat1 V c).arrAt_eq_of_covers 8 _ (by decide +kernel) fun t hf y => ?_
  show (dat1 V c).after 8 t y = _
  rw [after1_8]
  obtain ⟨r, k, rfl⟩ : ∃ (r : Fin 256) (k : Fin 5120), y = ix2 r k := ⟨y 0, y 1, by funext a; match a with | ⟨0, _⟩ => rfl | ⟨1, _⟩ => rfl⟩
  refine (last_apply V c t (flush1_last t hf) r k).trans ?_
  have e : ((cfg1.win 8).blk t).view.emb (ix2 r k) = ix2 (tok t r) k := by
    funext a
    apply Fin.ext
    match a with
    | ⟨0, _⟩ => show win1_8.index t 0 * 256 + 1 * r.val = t.val / 4 * 256 + r.val; rw [index1_8]; simp
    | ⟨1, _⟩ => show win1_8.index t 1 * 5120 + 1 * k.val = k.val; rw [index1_8]; simp
  exact (congrArg (outArr (V c main_v1_0) (V c main_v1_1) (V c main_v2) (V c main_v3) (V c main_arg3) (s13Of V c)
      (V c main_arg5) (s2Of V c)) e).symm

end Array

end Cert.KernelIdeal.Value
-- ==== Proof.Value.KernelValues.lean ====
/- The kernel's three results, from its arguments: the host's reshapes around the two calls' arrays. -/
module

public import proofs.«01_k».proof.Proof.Value.QuantArray
public import proofs.«01_k».proof.Proof.Value.MoeArray
public import proofs.«01_k».proof.Proof.KernelIdeal.Launch
public import Idealize.ShloMosaic.Lib.StableHlo.Run

@[expose] public section

noncomputable section

namespace Cert.KernelIdeal.Value

open Idealize.ShloMosaic Idealize.ShloMosaic.TcCoe
open Idealize.ShloMosaic.ValueIdx
open Cert.Layers Cert.Spec
open Cert.KernelIdeal Cert.KernelIdeal.Gen Cert.KernelIdeal.Run

variable (m : (ℓ : Loc nD τ sig) → Buf (Elt Ideal) ℓ) (ρ : Dev nD → PrngReg) (c : Dev nD)

/-- A matrix given a middle axis of size one reads, at `(e, 0, j)`, the matrix at `(e, j)`. -/
theorem middle_apply {α : Type} {a b : ℕ} (x : (⟨2, ![a, b]⟩ : Shape).Idx → α) (h : (⟨2, ![a, b]⟩ : Shape).ShapeCasts ⟨3, ![a, 1, b]⟩)
    (e : Fin a) (j : Fin b) : shapeCast ⟨3, ![a, 1, b]⟩ x h (ix3 e (0 : Fin 1) j) = x (ix2 e j) := by
  refine shapeCast_apply x h (ix3 e (0 : Fin 1) j) (ix2 e j) ?_
  rw [Shape.rowMajor_val_three, Shape.rowMajor_val_two]
  show e.val * b + j.val = (e.val * 1 + 0) * b + j.val
  rw [Nat.mul_one, Nat.add_zero]

/-- The tokens as a matrix. -/
def tokens : (⟨2, ![8192, 5120]⟩ : Shape).Idx → EReal :=
  shapeCast S8192x5120 (m ((c.tc : Thread nD τ).loc main_arg0) : Vec Ideal S8x1024x5120 .bf16) shapeCasts_S8x1024x5120_S8192x5120
/-- The routing's expert numbers as a matrix. -/
def ids : (⟨2, ![8192, 2]⟩ : Shape).Idx → BitVec 32 :=
  shapeCast S8192x2 (m ((c.tc : Thread nD τ).loc main_arg1) : Vec Ideal S8x1024x2 .i32) shapeCasts_S8x1024x2_S8192x2
/-- The routing's weights as a matrix. -/
def wts : (⟨2, ![8192, 2]⟩ : Shape).Idx → EReal :=
  shapeCast S8192x2 (m ((c.tc : Thread nD τ).loc main_arg2) : Vec Ideal S8x1024x2 .f32) shapeCasts_S8x1024x2_S8192x2

/-- The first call reads the tokens. -/
theorem V1_v0 : V1 m ρ c main_v0 = tokens m c := by
  show StableHlo.after hostOps0 (W0 m ρ c) (Proc.devRef .tc main_v0) = _
  after_results
  rfl

/-- The first call leaves the codes. -/
theorem W2_codes : W2 m ρ c (Proc.devRef .tc main_v1_0) = codesArr (tokens m c) :=
  (W2_arr m ρ c 1).trans ((arr0_1 (V1 m ρ) c).trans (congrArg codesArr (V1_v0 m ρ c)))
/-- The first call leaves the scales. -/
theorem W2_scale : W2 m ρ c (Proc.devRef .tc main_v1_1) = scaleArr (tokens m c) :=
  (W2_arr m ρ c 2).trans ((arr0_2 (V1 m ρ) c).trans (congrArg scaleArr (V1_v0 m ρ c)))

/-- The second call reads the codes. -/
theorem V3_codes : V3 m ρ c main_v1_0 = codesArr (tokens m c) :=
  (W3_of m ρ c main_v1_0 (by decide)).trans (W2_codes m ρ c)
/-- The second call reads the scales. -/
theorem V3_scale : V3 m ρ c main_v1_1 = scaleArr (tokens m c) :=
  (W3_of m ρ c main_v1_1 (by decide)).trans (W2_scale m ρ c)
/-- The second call reads the routing's expert numbers. -/
theorem V3_ids : V3 m ρ c main_v2 = ids m c := by
  show StableHlo.after hostOps1 (W2 m ρ c) (Proc.devRef .tc main_v2) = _
  after_results
  rw [W2_args m ρ c main_arg1 (by decide)]
  rfl
/-- The second call reads the routing's weights. -/
theorem V3_wts : V3 m ρ c main_v3 = wts m c := by
  show StableHlo.after hostOps1 (W2 m ρ c) (Proc.devRef .tc main_v3) = _
  after_results
  rw [W2_args m ρ c main_arg2 (by decide)]
  rfl
/-- The second call reads the first weights. -/
theorem V3_w13 : V3 m ρ c main_arg3 = m ((c.tc : Thread nD τ).loc main_arg3) := W3_args m ρ c main_arg3 (by decide)
/-- The second call reads the second weights. -/
theorem V3_w2 : V3 m ρ c main_arg5 = m ((c.tc : Thread nD τ).loc main_arg5) := W3_args m ρ c main_arg5 (by decide)
/-- The second call reads the first weights' scales. -/
theorem V3_s13 : s13Of (V3 m ρ) c = m ((c.tc : Thread nD τ).loc main_arg4) := by
  have h : V3 m ρ c main_v4 = shapeCast S4x1x1536 (m ((c.tc : Thread nD τ).loc main_arg4) : Vec Ideal S4x1536 .f32) shapeCasts_S4x1536_S4x1x1536 := by
    show StableHlo.after hostOps1 (W2 m ρ c) (Proc.devRef .tc main_v4) = _
    after_results
    rw [W2_args m ρ c main_arg4 (by decide)]
    rfl
  funext i
  obtain ⟨e, j, rfl⟩ : ∃ (e : Fin 4) (j : Fin 1536), i = ix2 e j := ⟨i 0, i 1, by funext a; match a with | ⟨0, _⟩ => rfl | ⟨1, _⟩ => rfl⟩
  rw [s13Of_apply, h]
  exact middle_apply _ _ e j
/-- The second call reads the second weights' scales. -/
theorem V3_s2 : s2Of (V3 m ρ) c = m ((c.tc : Thread nD τ).loc main_arg6) := by
  have h : V3 m ρ c main_v5 = shapeCast S4x1x5120 (m ((c.tc : Thread nD τ).loc main_arg6) : Vec Ideal S4x5120 .f32) shapeCasts_S4x5120_S4x1x5120 := by
    show StableHlo.after hostOps1 (W2 m ρ c) (Proc.devRef .tc main_v5) = _
    after_results
    rw [W2_args m ρ c main_arg6 (by decide)]
    rfl
  funext i
  obtain ⟨e, j, rfl⟩ : ∃ (e : Fin 4) (j : Fin 5120), i = ix2 e j := ⟨i 0, i 1, by funext a; match a with | ⟨0, _⟩ => rfl | ⟨1, _⟩ => rfl⟩
  rw [s2Of_apply, h]
  exact middle_apply _ _ e j

/-- The output as a matrix. -/
def output : (⟨2, ![8192, 5120]⟩ : Shape).Idx → EReal :=
  outArr (codesArr (tokens m c)) (scaleArr (tokens m c)) (ids m c) (wts m c) (m ((c.tc : Thread nD τ).loc main_arg3))
    (m ((c.tc : Thread nD τ).loc main_arg4)) (m ((c.tc : Thread nD τ).loc main_arg5)) (m ((c.tc : Thread nD τ).loc main_arg6))

/-- The second call leaves the output. -/
theorem W4_out : W4 m ρ c (Proc.devRef .tc main_v6) = output m c := by
  refine (W4_arr m ρ c 8).trans ((arr1_8 (V3 m ρ) c).trans ?_)
  rw [V3_codes, V3_scale, V3_ids, V3_wts, V3_w13, V3_w2, V3_s13, V3_s2]
  rfl
/-- The second call leaves the codes as they were. -/
theorem W4_codes : W4 m ρ c (Proc.devRef .tc main_v1_0) = codesArr (tokens m c) :=
  (W4_of m ρ c main_v1_0 (by decide +kernel)).trans (V3_codes m ρ c)
/-- The second call leaves the scales as they were. -/
theorem W4_scale : W4 m ρ c (Proc.devRef .tc main_v1_1) = scaleArr (tokens m c) :=
  (W4_of m ρ c main_v1_1 (by decide +kernel)).trans (V3_scale m ρ c)

/-- The first result: the output. -/
theorem result0 : W5 m ρ c main_v7 = shapeCast S8x1024x5120 (output m c) shapeCasts_S8192x5120_S8x1024x5120 := by
  show StableHlo.after hostOps2 (W4 m ρ c) (Proc.devRef .tc main_v7) = _
  after_results
  rw [W4_out]
  rfl
/-- The second result: the codes. -/
theorem result1 : W5 m ρ c main_v8 = shapeCast S8x1024x5120 (codesArr (tokens m c)) shapeCasts_S8192x5120_S8x1024x5120 := by
  show StableHlo.after hostOps2 (W4 m ρ c) (Proc.devRef .tc main_v8) = _
  after_results
  rw [W4_codes]
  rfl
/-- The third result: the scales. -/
theorem result2 : W5 m ρ c main_v9 = shapeCast S8x1024x1 (scaleArr (tokens m c)) shapeCasts_S8192x1_S8x1024x1 := by
  show StableHlo.after hostOps2 (W4 m ρ c) (Proc.devRef .tc main_v9) = _
  after_results
  rw [W4_scale]
  rfl

end Cert.KernelIdeal.Value
-- ==== Proof.Value.RefParts.lean ====
/- The reference's body, its four experts written with the same few functions of whole arrays: the hidden rows, their exponents and
   codes, and one expert's share. -/
module

public import proofs.«01_k».proof.Proof.Layers
public import proofs.«01_k».proof.Proof.Gen.ReferenceIdeal.Frame

@[expose] public section

set_option maxRecDepth 16384

noncomputable section

namespace Cert.ReferenceIdeal.Value

open Idealize.ShloMosaic
open Idealize.ShloMosaic.ValueIdx
open Cert.ReferenceIdeal Cert.ReferenceIdeal.Gen

variable {F : FTy → Type} [FloatOps F]

/-- The exponents from a column of greatest magnitudes: the floor of the binary logarithm of a 448th, plus one, clipped; zero at zero. -/
def expoCol (a : FVec F S8192x1 .f32) : FVec F S8192x1 .f32 :=
  select (cmpf .oeq a (broadcast S8192x1 (Scalar.ofBits .f32 0x00000000#32 : F .f32))) (broadcast S8192x1 (Scalar.ofBits .f32 0x00000000#32 : F .f32))
    (minimumf (broadcast S8192x1 (Scalar.ofBits .f32 0x42FC0000#32 : F .f32))
      (maximumf (broadcast S8192x1 (Scalar.ofBits .f32 0xC2FC0000#32 : F .f32))
        (addf (floor (divf (log (mulf a (broadcast S8192x1 (Scalar.ofBits .f32 0x3B124925#32 : F .f32))))
            (log (broadcast S8192x1 (Scalar.ofBits .f32 0x40000000#32 : F .f32)))))
          (broadcast S8192x1 (Scalar.ofBits .f32 0x3F800000#32 : F .f32)))))

/-- The exponents of the hidden rows. -/
def hidExpo (h : FVec F S8192x768 .f32) : FVec F S8192x1 .f32 :=
  expoCol (shapeCast S8192x1 (multiReduction .maximumf [1] S8192 (absf h) 0xFF800000#32 reduces_S8192x768_S8192 (.inl rfl) rfl) shapeCasts_S8192_S8192x1)

/-- The hidden rows times their inverse scales. -/
def hidScaled (h : FVec F S8192x768 .f32) : FVec F S8192x768 .f32 :=
  mulf h (broadcastTo S8192x768 (exp2 (subf (broadcast S8192x1 (Scalar.ofBits .f32 0x00000000#32 : F .f32)) (hidExpo h))) broadcasts_S8192x1_S8192x768)

/-- The hidden rows' codes. -/
def hidCodes (h : FVec F S8192x768 .f32) : FVec F S8192x768 .bf16 :=
  extf .bf16 (truncf .fp8e4m3 (minimumf (broadcast S8192x768 (Scalar.ofBits .f32 0x43E00000#32 : F .f32))
    (maximumf (broadcast S8192x768 (Scalar.ofBits .f32 0xC3E00000#32 : F .f32)) (hidScaled h))) bitsLt_fp8e4m3_f32) bitsLt_fp8e4m3_bf16

/-- Where the routing's column `0` names expert `e`. -/
def isExpert0 (e : BitVec 32) (ids : IVec S8192x2 32) : IVec S8192x1 1 :=
  cmpi .eq (extractStridedSlice S8192x1 ![0, 0] ids slices_S8192x2_o0_0_S8192x1) (broadcast S8192x1 e)
/-- Where the routing's column `1` names expert `e`. -/
def isExpert1 (e : BitVec 32) (ids : IVec S8192x2 32) : IVec S8192x1 1 :=
  cmpi .eq (extractStridedSlice S8192x1 ![0, 1] ids slices_S8192x2_o0_1_S8192x1) (broadcast S8192x1 e)

/-- Expert `e`'s share of every token's output, from its hidden rows. -/
def expertShare (e : BitVec 32) (ids : IVec S8192x2 32) (wts : FVec F S8192x2 .f32) (h : FVec F S8192x768 .f32)
    (w2 : Vec F S1x5120x768 .fp8e4m3) (s2 : Vec F S1x5120 .f32) : FVec F S8192x5120 .f32 :=
  select (broadcastTo S8192x5120 (shapeCast S8192x1 (ori (isExpert0 e ids) (isExpert1 e ids)) shapeCasts_S8192x1_S8192x1) broadcasts_S8192x1_S8192x5120)
    (mulf (mulf (mulf (matmul dot_S8192x768_S5120x768_S8192x5120_1_1_0_0_n_n none (hidCodes h)
            (extf .bf16 (shapeCast S5120x768 w2 shapeCasts_S1x5120x768_S5120x768) bitsLt_fp8e4m3_bf16 : FVec F S5120x768 .bf16)
            (constant S8192x5120 .f32 0x00000000#32))
          (broadcastTo S8192x5120 (exp2 (hidExpo h)) broadcasts_S8192x1_S8192x5120))
        (broadcastTo S8192x5120 s2 broadcasts_S1x5120_S8192x5120))
      (broadcastTo S8192x5120 (select (isExpert0 e ids) (extractStridedSlice S8192x1 ![0, 0] wts slices_S8192x2_o0_0_S8192x1)
        (extractStridedSlice S8192x1 ![0, 1] wts slices_S8192x2_o0_1_S8192x1)) broadcasts_S8192x1_S8192x5120))
    (broadcast S8192x5120 (Scalar.ofBits .f32 0x00000000#32 : F .f32))

/-- Codes from rows `y` and their exponents `e`: the rows times their inverse scales, clipped to `[-448, 448]`. -/
def clipped (y : FVec F S8192x5120 .f32) (e : FVec F S8192x1 .f32) : FVec F S8192x5120 .f32 :=
  minimumf (broadcast S8192x5120 (Scalar.ofBits .f32 0x43E00000#32 : F .f32))
    (maximumf (broadcast S8192x5120 (Scalar.ofBits .f32 0xC3E00000#32 : F .f32))
      (mulf y (broadcastTo S8192x5120 (exp2 (subf (broadcast S8192x1 (Scalar.ofBits .f32 0x00000000#32 : F .f32)) e)) broadcasts_S8192x1_S8192x5120)))

/-- The tokens' exponents. -/
theorem tok_expo (x : Vec F S8192x5120 .bf16) : k0_pay3 x = expoCol (shapeCast S8192x1 (multiReduction .maximumf [1] S8192 (absf (k0_pay2 x))
    0xFF800000#32 reduces_S8192x5120_S8192 (.inl rfl) rfl) shapeCasts_S8192_S8192x1) := by
  unfold k0_pay3
  generalize k0_pay2 x = y
  rfl

/-- The tokens' codes. -/
theorem tok_codes (x : Vec F S8192x5120 .bf16) : k0_pay5 x = truncf .fp8e4m3 (clipped (k0_pay2 x) (k0_pay3 x)) bitsLt_fp8e4m3_f32 := by
  unfold k0_pay5
  generalize k0_pay3 x = e
  generalize k0_pay2 x = y
  rfl

section Experts

variable (s : FVec F S8192x1 .f32) (c : FVec F S8192x5120 .bf16) (g u : Vec F S1x768x5120 .fp8e4m3) (sg su : Vec F S1x768 .f32)
  (ids : IVec S8192x2 32) (wts : FVec F S8192x2 .f32) (acc : FVec F S8192x5120 .f32) (w2 : Vec F S1x5120x768 .fp8e4m3) (s2 : Vec F S1x5120 .f32)

/-! ## Every expert's hidden rows are the same function of its weights -/

/-- Expert 1's hidden rows. -/
theorem hid1 : k0_pay16 s c (k0_pay14 g) (k0_pay15 u) sg su = k0_pay10 s c g u sg su := rfl
/-- Expert 2's hidden rows. -/
theorem hid2 : k0_pay25 s c (k0_pay22 u) (k0_pay23 s c g) (k0_pay24 sg) su = k0_pay10 s c g u sg su := rfl
/-- Expert 3's hidden rows. -/
theorem hid3 : k0_pay33 (k0_pay30 s c g sg) (k0_pay31 s c u) (k0_pay32 su) = k0_pay10 s c g u sg su := rfl

/-! ## … and so are their exponents -/

/-- Expert 0's exponents. -/
theorem expo0 : k0_pay11 s c g u sg su = hidExpo (k0_pay10 s c g u sg su) := rfl
/-- Expert 1's exponents. -/
theorem expo1 : k0_pay17 s c (k0_pay14 g) (k0_pay15 u) sg su = hidExpo (k0_pay10 s c g u sg su) := by
  rw [← hid1]; rfl
/-- Expert 2's exponents. -/
theorem expo2 : k0_pay26 s c (k0_pay22 u) (k0_pay23 s c g) (k0_pay24 sg) su = hidExpo (k0_pay10 s c g u sg su) := by
  rw [← hid2]; rfl
/-- Expert 3's exponents. -/
theorem expo3 : k0_pay34 (k0_pay30 s c g sg) (k0_pay31 s c u) (k0_pay32 su) = hidExpo (k0_pay10 s c g u sg su) := by
  rw [← hid3]; rfl

/-! ## Each step adds the expert's share -/

/-- Expert 0's share is added. -/
theorem step0 : k0_pay13 ids wts acc (k0_pay10 s c g u sg su) (k0_pay11 s c g u sg su) (k0_pay12 s c g u sg su) w2 s2
    = addf acc (expertShare 0#32 ids wts (k0_pay10 s c g u sg su) w2 s2) := by
  unfold k0_pay12
  rw [expo0]
  generalize k0_pay10 s c g u sg su = h
  unfold k0_pay13 expertShare hidCodes hidScaled isExpert0 isExpert1
  generalize hidExpo h = e
  rfl

/-- Expert 1's share is added. -/
theorem step1 : k0_pay21 ids wts acc (k0_pay18 s c (k0_pay14 g) (k0_pay15 u) sg su) (k0_pay19 s c (k0_pay14 g) (k0_pay15 u) sg su)
      (Scalar.ofBits .f32 0x43E00000#32) k0_pay20 w2 s2
    = addf acc (expertShare 1#32 ids wts (k0_pay10 s c g u sg su) w2 s2) := by
  unfold k0_pay18 k0_pay19
  rw [expo1, hid1]
  generalize k0_pay10 s c g u sg su = h
  unfold k0_pay21 k0_pay20 expertShare hidCodes hidScaled isExpert0 isExpert1
  generalize hidExpo h = e
  rfl

/-- Expert 2's share is added. -/
theorem step2 : k0_pay29 ids wts acc (k0_pay27 s c (k0_pay22 u) (k0_pay23 s c g) (k0_pay24 sg) su)
      (k0_pay28 s c (k0_pay22 u) (k0_pay23 s c g) (k0_pay24 sg) su) w2 s2
    = addf acc (expertShare 2#32 ids wts (k0_pay10 s c g u sg su) w2 s2) := by
  unfold k0_pay27 k0_pay28
  rw [expo2, hid2]
  generalize k0_pay10 s c g u sg su = h
  unfold k0_pay29 expertShare hidCodes hidScaled isExpert0 isExpert1
  generalize hidExpo h = e
  rfl

/-- Expert 3's share is added, and the sum rounded. -/
theorem step3 : k0_pay1 wts acc (k0_pay35 (k0_pay30 s c g sg) (k0_pay31 s c u) (k0_pay32 su))
      (k0_pay36 (k0_pay30 s c g sg) (k0_pay31 s c u) (k0_pay32 su) w2) (k0_pay37 ids) (k0_pay38 ids) s2
    = truncf .bf16 (addf acc (expertShare 3#32 ids wts (k0_pay10 s c g u sg su) w2 s2)) bitsLt_bf16_f32 := by
  unfold k0_pay35 k0_pay36
  rw [expo3, hid3]
  generalize k0_pay10 s c g u sg su = h
  unfold k0_pay1 k0_pay37 k0_pay38 expertShare hidCodes hidScaled isExpert0 isExpert1
  generalize hidExpo h = e
  rfl

end Experts

/-! ## The three results -/

section Results

variable (x0 : Vec F S8192x5120 .bf16) (x1 : Vec F S8192x2 .i32) (x2 : Vec F S8192x2 .f32) (x3 : Vec F S4x1536x5120 .fp8e4m3)
  (x4 : Vec F S4x1536 .f32) (x5 : Vec F S4x5120x768 .fp8e4m3) (x6 : Vec F S4x5120 .f32)

/-- No offset in two dimensions. -/
theorem z2 : (![0, 0] : Fin 2 → ℕ) = fun _ => 0 := funext fun a => by match a with | ⟨0, _⟩ => rfl | ⟨1, _⟩ => rfl

/-- The whole load of the tokens. -/
theorem ld_x0 : View.ld (Val := Elt F) (e' := .bf16) x0 r0_0 = x0 := View.ld_unit_zero z2 _ x0
/-- The whole load of the expert numbers. -/
theorem ld_x1 : View.ld (Val := Elt F) (e' := .i32) x1 r0_1 = x1 := View.ld_unit_zero z2 _ x1
/-- The whole load of the routing weights. -/
theorem ld_x2 : View.ld (Val := Elt F) (e' := .f32) x2 r0_1 = x2 := View.ld_unit_zero z2 _ x2

/-- The output: zero plus the four experts' shares in order, each of its weights' part. -/
theorem out7_eq : out0_7 x0 x1 x2 x3 x4 x5 x6
    = truncf .bf16 (addf (addf (addf (addf (k0_pay9 (F := F))
        (expertShare 0#32 x1 x2 (k0_pay10 (k0_pay4 x0) (k0_pay6 x0) (View.ld x3 r0_2) (View.ld x3 r0_3) (View.ld x4 r0_4) (View.ld x4 r0_5)) (View.ld x5 r0_6) (View.ld x6 r0_7)))
        (expertShare 1#32 x1 x2 (k0_pay10 (k0_pay4 x0) (k0_pay6 x0) (View.ld x3 r0_8) (View.ld x3 r0_9) (View.ld x4 r0_10) (View.ld x4 r0_11)) (View.ld x5 r0_12) (View.ld x6 r0_13)))
        (expertShare 2#32 x1 x2 (k0_pay10 (k0_pay4 x0) (k0_pay6 x0) (View.ld x3 r0_14) (View.ld x3 r0_15) (View.ld x4 r0_16) (View.ld x4 r0_17)) (View.ld x5 r0_18) (View.ld x6 r0_19)))
        (expertShare 3#32 x1 x2 (k0_pay10 (k0_pay4 x0) (k0_pay6 x0) (View.ld x3 r0_20) (View.ld x3 r0_21) (View.ld x4 r0_22) (View.ld x4 r0_23)) (View.ld x5 r0_24) (View.ld x6 r0_25)))
      bitsLt_bf16_f32 := by
  have e7 : k0_pay7 x1 = x1 := shapeCast_self _ _
  have e8 : k0_pay8 x2 = x2 := shapeCast_self _ _
  unfold out0_7
  refine (View.canon_unit_zero (S := S8192x5120) z2 _ _).trans ?_
  unfold k0_pay48 k0_pay49 k0_pay50 k0_pay43 k0_pay44 k0_pay45 k0_pay46 k0_pay47 k0_pay39 k0_pay40 k0_pay41 k0_pay42
  rw [ld_x0, ld_x1, ld_x2, e7, e8, step0, step1, step2, step3]

/-- The codes' array is the tokens' codes. -/
theorem out8_eq : out0_8 x0 x1 x2 x3 x4 x5 x6 = k0_pay5 x0 := by
  unfold out0_8
  refine (View.canon_unit_zero (S := S8192x5120) z2 _ _).trans ?_
  rw [ld_x0]

/-- The scales' array is the tokens' scales. -/
theorem out9_eq : out0_9 x0 x1 x2 x3 x4 x5 x6 = k0_pay4 x0 := by
  unfold out0_9 k0_pay39
  refine (View.canon_unit_zero (S := S8192x1) z2 _ _).trans ?_
  rw [ld_x0]

end Results

end Cert.ReferenceIdeal.Value
-- ==== Proof.Value.RefBlock.lean ====
/- The reference's three arrays, from its operands: the codes, the scales and the output. -/
module

public import proofs.«01_k».proof.Proof.Layers
public import proofs.«01_k».proof.Proof.Spec
public import proofs.«01_k».proof.Proof.Value.RefParts

@[expose] public section

set_option maxRecDepth 16384

noncomputable section

namespace Cert.ReferenceIdeal.Value

open Idealize.ShloMosaic
open Idealize.ShloMosaic.ValueIdx
open Cert.Layers Cert.Spec
open Cert.ReferenceIdeal Cert.ReferenceIdeal.Gen

/-- The exponents at a position. -/
theorem expoCol_apply (a : FVec Ideal S8192x1 .f32) (i : S8192x1.Idx) : expoCol a i = Scale.expoR (a i) := rfl

/-! ## The tokens' codes and scales -/

/-- Widening the tokens changes no value. -/
theorem k0_pay2_eq (x : Vec Ideal S8192x5120 .bf16) : k0_pay2 (F := Ideal) x = x :=
  shapeCast_self (α := EReal) x shapeCasts_S8192x5120_S8192x5120

/-- A token's exponent is its row's. -/
theorem k0_pay3_apply (x : Vec Ideal S8192x5120 .bf16) (r : Fin 8192) :
    k0_pay3 (F := Ideal) x (ix2 r (0 : Fin 1)) = Scale.expoR (rowMax fun k : Fin 5120 => x (ix2 r k)) := by
  rw [tok_expo, expoCol_apply, k0_pay2_eq]
  exact congrArg Scale.expoR (absMaxCol_f32 x reduces_S8192x5120_S8192 (.inl rfl) rfl shapeCasts_S8192_S8192x1 r)

/-- A token's scale is its row's. -/
theorem k0_pay4_apply (x : Vec Ideal S8192x5120 .bf16) (r : Fin 8192) :
    k0_pay4 (F := Ideal) x (ix2 r (0 : Fin 1)) = scale fun k : Fin 5120 => x (ix2 r k) := by
  have e3 := k0_pay3_apply x r
  unfold k0_pay4
  generalize k0_pay3 (F := Ideal) x = e at e3
  rw [exp2_apply, e3, scale, Scale.scaleR]

/-- A token's codes are its row's. -/
theorem k0_pay5_apply (x : Vec Ideal S8192x5120 .bf16) (r : Fin 8192) (k : Fin 5120) :
    k0_pay5 (F := Ideal) x (ix2 r k) = codes (fun k : Fin 5120 => x (ix2 r k)) k := by
  have e3 := k0_pay3_apply x r
  rw [tok_codes, truncf_apply, k0_pay2_eq]
  generalize k0_pay3 (F := Ideal) x = e at e3
  unfold clipped
  rw [clipped_apply x e broadcasts_S8192x1_S8192x5120 r k, e3, codes, Scale.invR]

/-- The codes widened are the codes. -/
theorem k0_pay6_apply (x : Vec Ideal S8192x5120 .bf16) (r : Fin 8192) (k : Fin 5120) :
    k0_pay6 (F := Ideal) x (ix2 r k) = codes (fun k : Fin 5120 => x (ix2 r k)) k := by
  unfold k0_pay6
  rw [extf_apply, k0_pay5_apply]

/-! ## One expert -/

/-- A first product contracts the last axis of both operands. -/
theorem dot13_eq : dot_S8192x5120_S768x5120_S8192x768_1_1_0_0_n_n = DotDims.transposedRhs 8192 5120 768 := rfl
/-- A second product contracts the last axis of both operands. -/
theorem dot2_eq : dot_S8192x768_S5120x768_S8192x5120_1_1_0_0_n_n = DotDims.transposedRhs 8192 768 5120 := rfl

/-- A first product at a position. -/
theorem mm13_apply (c : FVec Ideal S8192x5120 .bf16) (w : Vec Ideal S1x768x5120 .fp8e4m3) (r : Fin 8192) (j : Fin 768) :
    matmul (F := Ideal) (φ₁ := .bf16) (φ₂ := .bf16) dot_S8192x5120_S768x5120_S8192x768_1_1_0_0_n_n none c
        (extf .bf16 (shapeCast S768x5120 w shapeCasts_S1x768x5120_S768x5120 : FVec Ideal S768x5120 .fp8e4m3) bitsLt_fp8e4m3_bf16)
        (constant S8192x768 .f32 0x00000000#32) (ix2 r j)
      = dotp (fun k : Fin 5120 => c (ix2 r k)) (fun k : Fin 5120 => w (ix3 (0 : Fin 1) j k)) := by
  rw [dot13_eq]
  refine (Layers.matmul_apply (φ₁ := .bf16) (φ₂ := .bf16) none c _ r j).trans ?_
  refine congrArg (dotp _) (funext fun k => ?_)
  exact shapeCast_1ab_ab_apply w _ j k

/-- A hidden row at a position. -/
theorem k0_pay10_apply (s : FVec Ideal S8192x1 .f32) (c : FVec Ideal S8192x5120 .bf16) (g u : Vec Ideal S1x768x5120 .fp8e4m3)
    (sg su : Vec Ideal S1x768 .f32) (r : Fin 8192) (j : Fin 768) :
    k0_pay10 (F := Ideal) s c g u sg su (ix2 r j)
      = act (proj (fun k : Fin 5120 => c (ix2 r k)) (s (ix2 r (0 : Fin 1))) (fun k : Fin 5120 => g (ix3 (0 : Fin 1) j k)) (sg (ix2 (0 : Fin 1) j)))
          (proj (fun k : Fin 5120 => c (ix2 r k)) (s (ix2 r (0 : Fin 1))) (fun k : Fin 5120 => u (ix3 (0 : Fin 1) j k)) (su (ix2 (0 : Fin 1) j))) := by
  have eg := mm13_apply c g r j
  have eu := mm13_apply c u r j
  have es := broadcastTo_a1_ab_apply s broadcasts_S8192x1_S8192x768 r j
  have e1 := broadcastTo_1b_ab_apply sg broadcasts_S1x768_S8192x768 r j
  have e2 := broadcastTo_1b_ab_apply su broadcasts_S1x768_S8192x768 r j
  unfold k0_pay10
  simp only [mulf_apply, logistic_apply]
  rw [eg, eu, es, e1, e2]
  rfl

/-- A hidden row's exponent is the row's. -/
theorem hidExpo_apply (h : FVec Ideal S8192x768 .f32) (r : Fin 8192) :
    hidExpo h (ix2 r (0 : Fin 1)) = Scale.expoR (rowMax fun j : Fin 768 => h (ix2 r j)) := by
  unfold hidExpo
  rw [expoCol_apply]
  exact congrArg Scale.expoR (absMaxCol_f32 h reduces_S8192x768_S8192 (.inl rfl) rfl shapeCasts_S8192_S8192x1 r)

/-- A hidden row's codes are the row's. -/
theorem hidCodes_apply (h : FVec Ideal S8192x768 .f32) (r : Fin 8192) (j : Fin 768) :
    hidCodes h (ix2 r j) = codes (fun j : Fin 768 => h (ix2 r j)) j := by
  have e3 := hidExpo_apply h r
  unfold hidCodes hidScaled
  generalize hidExpo h = e at e3
  rw [extf_apply, truncf_apply, clipped_apply h e broadcasts_S8192x1_S8192x768 r j, e3, codes, Scale.invR]

/-- The second product at a position. -/
theorem mm2_apply (x : FVec Ideal S8192x768 .bf16) (w : Vec Ideal S1x5120x768 .fp8e4m3) (r : Fin 8192) (d : Fin 5120) :
    matmul (F := Ideal) (φ₁ := .bf16) (φ₂ := .bf16) dot_S8192x768_S5120x768_S8192x5120_1_1_0_0_n_n none x
        (extf .bf16 (shapeCast S5120x768 w shapeCasts_S1x5120x768_S5120x768 : FVec Ideal S5120x768 .fp8e4m3) bitsLt_fp8e4m3_bf16)
        (constant S8192x5120 .f32 0x00000000#32) (ix2 r d)
      = dotp (fun k : Fin 768 => x (ix2 r k)) (fun k : Fin 768 => w (ix3 (0 : Fin 1) d k)) := by
  rw [dot2_eq]
  refine (Layers.matmul_apply (φ₁ := .bf16) (φ₂ := .bf16) none x _ r d).trans ?_
  refine congrArg (dotp _) (funext fun k => ?_)
  exact shapeCast_1ab_ab_apply w _ d k

/-- One expert's share at a position. -/
theorem expertShare_apply (e : BitVec 32) (ids : IVec S8192x2 32) (wts : FVec Ideal S8192x2 .f32) (h : FVec Ideal S8192x768 .f32)
    (w2 : Vec Ideal S1x5120x768 .fp8e4m3) (s2 : Vec Ideal S1x5120 .f32) (r : Fin 8192) (d : Fin 5120) :
    expertShare (F := Ideal) e ids wts h w2 s2 (ix2 r d)
      = share (fun j : Fin 768 => h (ix2 r j)) (fun k : Fin 768 => w2 (ix3 (0 : Fin 1) d k)) (s2 (ix2 (0 : Fin 1) d))
          (IntOp.cmpi .eq (ids (ix2 r (0 : Fin 2))) e) (IntOp.cmpi .eq (ids (ix2 r (1 : Fin 2))) e)
          (wts (ix2 r (0 : Fin 2))) (wts (ix2 r (1 : Fin 2))) := by
  have em := mm2_apply (hidCodes h) w2 r d
  have ec : (fun k : Fin 768 => hidCodes h (ix2 r k)) = codes fun j : Fin 768 => h (ix2 r j) := funext fun k => hidCodes_apply h r k
  have i0 := slice2_axis1_apply 0 ids slices_S8192x2_o0_0_S8192x1 r (0 : Fin 1) (0 : Fin 2) rfl
  have i1 := slice2_axis1_apply 1 ids slices_S8192x2_o0_1_S8192x1 r (0 : Fin 1) (1 : Fin 2) rfl
  have r0 := slice2_axis1_apply 0 wts slices_S8192x2_o0_0_S8192x1 r (0 : Fin 1) (0 : Fin 2) rfl
  have r1 := slice2_axis1_apply 1 wts slices_S8192x2_o0_1_S8192x1 r (0 : Fin 1) (1 : Fin 2) rfl
  have eh := broadcastTo_a1_ab_apply (exp2 (hidExpo h)) broadcasts_S8192x1_S8192x5120 r d
  have ex : exp2 (hidExpo h) (ix2 r (0 : Fin 1)) = scale fun j : Fin 768 => h (ix2 r j) := by
    rw [exp2_apply, hidExpo_apply, scale, Scale.scaleR]
  have e2 := broadcastTo_1b_ab_apply s2 broadcasts_S1x5120_S8192x5120 r d
  rw [ec] at em
  rw [ex] at eh
  unfold expertShare isExpert0 isExpert1
  simp only [shapeCast_self]
  rw [select_apply, mulf_apply, mulf_apply, mulf_apply, em, eh, e2]
  rw [broadcastTo_a1_ab_apply, broadcastTo_a1_ab_apply]
  rw [select_apply]
  unfold share proj
  show Scalar.select (IntOp.ori (IntOp.cmpi .eq _ e) (IntOp.cmpi .eq _ e)) (_ * Scalar.select (IntOp.cmpi .eq _ e) _ _) _ = _
  rw [i0, i1, r0, r1]
  rfl

end Cert.ReferenceIdeal.Value
-- ==== Proof.Value.RefArrays.lean ====
/- The reference's three arrays, whole. -/
module

public import proofs.«01_k».proof.Proof.Value.RefBlock

@[expose] public section

set_option maxRecDepth 16384

noncomputable section

namespace Cert.ReferenceIdeal.Value

open Idealize.ShloMosaic
open Idealize.ShloMosaic.ValueIdx
open Cert.Layers Cert.Spec
open Cert.ReferenceIdeal Cert.ReferenceIdeal.Gen

/-! ## Loads of one expert's weights -/

/-- A load of one slab of a three-dimensional array from row `o` on, at a position. -/
theorem ld_slab {n a b m : ℕ} {t : EltTy} (x : Vec Ideal ⟨3, ![n, a, b]⟩ t) (e : Fin n) (o : ℕ)
    (h : ∀ ax, (![e.val, o, 0] : Fin 3 → ℕ) ax + (⟨3, ![1, m, b]⟩ : Shape).size ax ≤ (⟨3, ![n, a, b]⟩ : Shape).size ax) (j : Fin m) (k : Fin b) (j' : Fin a) (hj : j'.val = o + j.val) :
    View.ld (Val := Elt Ideal) (e' := t) x (Rect.unit (s := ⟨3, ![n, a, b]⟩) ![e.val, o, 0] (⟨3, ![1, m, b]⟩ : Shape).size h) (ix3 (0 : Fin 1) j k)
      = x (ix3 e j' k) := by
  show x _ = x _
  congr 1
  funext ax
  apply Fin.ext
  match ax with
  | ⟨0, _⟩ => show e.val + 1 * 0 = e.val; omega
  | ⟨1, _⟩ => show o + 1 * j.val = j'.val; omega
  | ⟨2, _⟩ => show 0 + 1 * k.val = k.val; omega

/-- A load of part of one row of a matrix from column `o` on, at a position. -/
theorem ld_part {n a m : ℕ} {t : EltTy} (x : Vec Ideal ⟨2, ![n, a]⟩ t) (e : Fin n) (o : ℕ)
    (h : ∀ ax, (![e.val, o] : Fin 2 → ℕ) ax + (⟨2, ![1, m]⟩ : Shape).size ax ≤ (⟨2, ![n, a]⟩ : Shape).size ax) (j : Fin m) (j' : Fin a) (hj : j'.val = o + j.val) :
    View.ld (Val := Elt Ideal) (e' := t) x (Rect.unit (s := ⟨2, ![n, a]⟩) ![e.val, o] (⟨2, ![1, m]⟩ : Shape).size h) (ix2 (0 : Fin 1) j)
      = x (ix2 e j') := by
  show x _ = x _
  congr 1
  funext ax
  apply Fin.ext
  match ax with
  | ⟨0, _⟩ => show e.val + 1 * 0 = e.val; omega
  | ⟨1, _⟩ => show o + 1 * j.val = j'.val; omega

/-! ## One expert from the whole operands -/

section Expert

variable (x0 : Vec Ideal S8192x5120 .bf16) (x1 : Vec Ideal S8192x2 .i32) (x2 : Vec Ideal S8192x2 .f32) (x3 : Vec Ideal S4x1536x5120 .fp8e4m3)
  (x4 : Vec Ideal S4x1536 .f32) (x5 : Vec Ideal S4x5120x768 .fp8e4m3) (x6 : Vec Ideal S4x5120 .f32)

/-- An expert's share from its weights' parts is its share from the whole arrays. -/
theorem share_whole (e : Fin 4) (g u : Vec Ideal S1x768x5120 .fp8e4m3) (sg su : Vec Ideal S1x768 .f32) (w : Vec Ideal S1x5120x768 .fp8e4m3)
    (t : Vec Ideal S1x5120 .f32) (b : BitVec 32) (hb : b = BitVec.ofNat 32 e.val)
    (hg : ∀ (j : Fin 768) (k : Fin 5120), g (ix3 (0 : Fin 1) j k) = x3 (ix3 e (⟨j.val, by omega⟩ : Fin 1536) k))
    (hu : ∀ (j : Fin 768) (k : Fin 5120), u (ix3 (0 : Fin 1) j k) = x3 (ix3 e (⟨768 + j.val, by omega⟩ : Fin 1536) k))
    (hsg : ∀ j : Fin 768, sg (ix2 (0 : Fin 1) j) = x4 (ix2 e (⟨j.val, by omega⟩ : Fin 1536)))
    (hsu : ∀ j : Fin 768, su (ix2 (0 : Fin 1) j) = x4 (ix2 e (⟨768 + j.val, by omega⟩ : Fin 1536)))
    (hw : ∀ (d : Fin 5120) (k : Fin 768), w (ix3 (0 : Fin 1) d k) = x5 (ix3 e d k))
    (ht : ∀ d : Fin 5120, t (ix2 (0 : Fin 1) d) = x6 (ix2 e d)) (r : Fin 8192) (d : Fin 5120) :
    expertShare (F := Ideal) b x1 x2 (k0_pay10 (k0_pay4 x0) (k0_pay6 x0) g u sg su) w t (ix2 r d)
      = shareAt (codesArr x0) (scaleArr x0) x1 x2 x3 x4 x5 x6 e r d := by
  subst hb
  refine (expertShare_apply _ _ _ _ _ _ r d).trans ?_
  have h : (fun j : Fin 768 => k0_pay10 (F := Ideal) (k0_pay4 x0) (k0_pay6 x0) g u sg su (ix2 r j))
      = hiddenAt (codesArr x0) (scaleArr x0) x3 x4 e r := by
    funext j
    refine (k0_pay10_apply _ _ _ _ _ _ r j).trans ?_
    have c : (fun k : Fin 5120 => k0_pay6 (F := Ideal) x0 (ix2 r k)) = fun k => codesArr x0 (ix2 r k) := funext fun k => k0_pay6_apply x0 r k
    have s : k0_pay4 (F := Ideal) x0 (ix2 r (0 : Fin 1)) = scaleArr x0 (ix2 r (0 : Fin 1)) := k0_pay4_apply x0 r
    rw [c, s, hsg, hsu]
    simp only [hg, hu]
    rfl
  rw [h, ht]
  simp only [hw]
  rfl

/-- Expert 0's share. -/
theorem share0 (r : Fin 8192) (d : Fin 5120) :
    expertShare (F := Ideal) 0#32 x1 x2 (k0_pay10 (k0_pay4 x0) (k0_pay6 x0) (View.ld x3 r0_2) (View.ld x3 r0_3) (View.ld x4 r0_4) (View.ld x4 r0_5))
        (View.ld x5 r0_6) (View.ld x6 r0_7) (ix2 r d)
      = shareAt (codesArr x0) (scaleArr x0) x1 x2 x3 x4 x5 x6 0 r d :=
  share_whole x0 x1 x2 x3 x4 x5 x6 0 _ _ _ _ _ _ _ rfl
    (fun j k => ld_slab x3 0 0 _ j k _ (Nat.zero_add _).symm) (fun j k => ld_slab x3 0 768 _ j k _ rfl)
    (fun j => ld_part x4 0 0 _ j _ (Nat.zero_add _).symm) (fun j => ld_part x4 0 768 _ j _ rfl)
    (fun d k => ld_slab x5 0 0 _ d k _ (Nat.zero_add _).symm) (fun d => ld_part x6 0 0 _ d _ (Nat.zero_add _).symm) r d

/-- Expert 1's share. -/
theorem share1 (r : Fin 8192) (d : Fin 5120) :
    expertShare (F := Ideal) 1#32 x1 x2 (k0_pay10 (k0_pay4 x0) (k0_pay6 x0) (View.ld x3 r0_8) (View.ld x3 r0_9) (View.ld x4 r0_10) (View.ld x4 r0_11))
        (View.ld x5 r0_12) (View.ld x6 r0_13) (ix2 r d)
      = shareAt (codesArr x0) (scaleArr x0) x1 x2 x3 x4 x5 x6 1 r d :=
  share_whole x0 x1 x2 x3 x4 x5 x6 1 _ _ _ _ _ _ _ rfl
    (fun j k => ld_slab x3 1 0 _ j k _ (Nat.zero_add _).symm) (fun j k => ld_slab x3 1 768 _ j k _ rfl)
    (fun j => ld_part x4 1 0 _ j _ (Nat.zero_add _).symm) (fun j => ld_part x4 1 768 _ j _ rfl)
    (fun d k => ld_slab x5 1 0 _ d k _ (Nat.zero_add _).symm) (fun d => ld_part x6 1 0 _ d _ (Nat.zero_add _).symm) r d

/-- Expert 2's share. -/
theorem share2 (r : Fin 8192) (d : Fin 5120) :
    expertShare (F := Ideal) 2#32 x1 x2 (k0_pay10 (k0_pay4 x0) (k0_pay6 x0) (View.ld x3 r0_14) (View.ld x3 r0_15) (View.ld x4 r0_16) (View.ld x4 r0_17))
        (View.ld x5 r0_18) (View.ld x6 r0_19) (ix2 r d)
      = shareAt (codesArr x0) (scaleArr x0) x1 x2 x3 x4 x5 x6 2 r d :=
  share_whole x0 x1 x2 x3 x4 x5 x6 2 _ _ _ _ _ _ _ rfl
    (fun j k => ld_slab x3 2 0 _ j k _ (Nat.zero_add _).symm) (fun j k => ld_slab x3 2 768 _ j k _ rfl)
    (fun j => ld_part x4 2 0 _ j _ (Nat.zero_add _).symm) (fun j => ld_part x4 2 768 _ j _ rfl)
    (fun d k => ld_slab x5 2 0 _ d k _ (Nat.zero_add _).symm) (fun d => ld_part x6 2 0 _ d _ (Nat.zero_add _).symm) r d

/-- Expert 3's share. -/
theorem share3 (r : Fin 8192) (d : Fin 5120) :
    expertShare (F := Ideal) 3#32 x1 x2 (k0_pay10 (k0_pay4 x0) (k0_pay6 x0) (View.ld x3 r0_20) (View.ld x3 r0_21) (View.ld x4 r0_22) (View.ld x4 r0_23))
        (View.ld x5 r0_24) (View.ld x6 r0_25) (ix2 r d)
      = shareAt (codesArr x0) (scaleArr x0) x1 x2 x3 x4 x5 x6 3 r d :=
  share_whole x0 x1 x2 x3 x4 x5 x6 3 _ _ _ _ _ _ _ rfl
    (fun j k => ld_slab x3 3 0 _ j k _ (Nat.zero_add _).symm) (fun j k => ld_slab x3 3 768 _ j k _ rfl)
    (fun j => ld_part x4 3 0 _ j _ (Nat.zero_add _).symm) (fun j => ld_part x4 3 768 _ j _ rfl)
    (fun d k => ld_slab x5 3 0 _ d k _ (Nat.zero_add _).symm) (fun d => ld_part x6 3 0 _ d _ (Nat.zero_add _).symm) r d

/-! ## The three results -/

/-- The output is the shares' sum. -/
theorem out7_value : out0_7 (F := Ideal) x0 x1 x2 x3 x4 x5 x6 = outArr (codesArr x0) (scaleArr x0) x1 x2 x3 x4 x5 x6 := by
  rw [out7_eq]
  funext i
  obtain ⟨r, d, rfl⟩ : ∃ (r : Fin 8192) (d : Fin 5120), i = ix2 r d := ⟨i 0, i 1, funext fun a => by match a with | ⟨0, _⟩ => rfl | ⟨1, _⟩ => rfl⟩
  have z : k0_pay9 (F := Ideal) (ix2 r d) = (0 : EReal) := Scale.zero_eq
  rw [truncf_apply, addf_apply, addf_apply, addf_apply, addf_apply, share0, share1, share2, share3, z, zero_add]
  rfl

/-- The codes are the tokens'. -/
theorem out8_value : out0_8 (F := Ideal) x0 x1 x2 x3 x4 x5 x6 = codesArr x0 := by
  rw [out8_eq]
  funext i
  obtain ⟨r, d, rfl⟩ : ∃ (r : Fin 8192) (d : Fin 5120), i = ix2 r d := ⟨i 0, i 1, funext fun a => by match a with | ⟨0, _⟩ => rfl | ⟨1, _⟩ => rfl⟩
  exact k0_pay5_apply x0 r d

/-- The scales are the tokens'. -/
theorem out9_value : out0_9 (F := Ideal) x0 x1 x2 x3 x4 x5 x6 = scaleArr x0 := by
  rw [out9_eq]
  funext i
  obtain ⟨r, d, rfl⟩ : ∃ (r : Fin 8192) (d : Fin 1), i = ix2 r d := ⟨i 0, i 1, funext fun a => by match a with | ⟨0, _⟩ => rfl | ⟨1, _⟩ => rfl⟩
  obtain rfl : d = 0 := Subsingleton.elim _ _
  exact k0_pay4_apply x0 r

end Expert

end Cert.ReferenceIdeal.Value
-- ==== Proof.Value.RefValues.lean ====
/- The reference's three results, from its arguments: the host's reshapes around its arrays. -/
module

public import proofs.«01_k».proof.Proof.Value.RefArrays
public import Idealize.ShloMosaic.Lib.StableHlo.Run
public import Idealize.ShloMosaic.Lib.Pipeline.ValueKit

@[expose] public section

noncomputable section

namespace Cert.ReferenceIdeal.Value

open Idealize.ShloMosaic Idealize.ShloMosaic.TcCoe
open Idealize.ShloMosaic.ValueIdx
open Idealize.ShloMosaic.Pipeline (Dat)
open Idealize.SL.Sem
open Cert.Layers Cert.Spec
open Cert.ReferenceIdeal Cert.ReferenceIdeal.Gen

variable (m : (ℓ : Loc nD τ sig) → Buf (Elt Ideal) ℓ) (ρ : Dev nD → PrngReg) (c : Dev nD)

/-! ## The one point's blocks are the whole arrays -/

/-- Operand 0's block is the whole operand. -/
theorem iblk_0 (t : Fin cfg0.N) : iblk m c 0 t = V m c main_v0 := by
  funext y
  unfold iblk
  rw [View.read_apply]
  show V m c main_v0 _ = _
  congr 1
  funext a
  apply Fin.ext
  match a with
  | ⟨0, _⟩ => show 0 * 8192 + 1 * (y 0).val = (y 0).val; omega
  | ⟨1, _⟩ => show 0 * 5120 + 1 * (y 1).val = (y 1).val; omega

/-- Operand 1's block is the whole operand. -/
theorem iblk_1 (t : Fin cfg0.N) : iblk m c 1 t = V m c main_v1 := by
  funext y
  unfold iblk
  rw [View.read_apply]
  show V m c main_v1 _ = _
  congr 1
  funext a
  apply Fin.ext
  match a with
  | ⟨0, _⟩ => show 0 * 8192 + 1 * (y 0).val = (y 0).val; omega
  | ⟨1, _⟩ => show 0 * 2 + 1 * (y 1).val = (y 1).val; omega

/-- Operand 2's block is the whole operand. -/
theorem iblk_2 (t : Fin cfg0.N) : iblk m c 2 t = V m c main_v2 := by
  funext y
  unfold iblk
  rw [View.read_apply]
  show V m c main_v2 _ = _
  congr 1
  funext a
  apply Fin.ext
  match a with
  | ⟨0, _⟩ => show 0 * 8192 + 1 * (y 0).val = (y 0).val; omega
  | ⟨1, _⟩ => show 0 * 2 + 1 * (y 1).val = (y 1).val; omega

/-- Operand 3's block is the whole operand. -/
theorem iblk_3 (t : Fin cfg0.N) : iblk m c 3 t = V m c main_arg3 := by
  funext y
  unfold iblk
  rw [View.read_apply]
  show V m c main_arg3 _ = _
  congr 1
  funext a
  apply Fin.ext
  match a with
  | ⟨0, _⟩ => show 0 * 4 + 1 * (y 0).val = (y 0).val; omega
  | ⟨1, _⟩ => show 0 * 1536 + 1 * (y 1).val = (y 1).val; omega
  | ⟨2, _⟩ => show 0 * 5120 + 1 * (y 2).val = (y 2).val; omega

/-- Operand 4's block is the whole operand. -/
theorem iblk_4 (t : Fin cfg0.N) : iblk m c 4 t = V m c main_arg4 := by
  funext y
  unfold iblk
  rw [View.read_apply]
  show V m c main_arg4 _ = _
  congr 1
  funext a
  apply Fin.ext
  match a with
  | ⟨0, _⟩ => show 0 * 4 + 1 * (y 0).val = (y 0).val; omega
  | ⟨1, _⟩ => show 0 * 1536 + 1 * (y 1).val = (y 1).val; omega

/-- Operand 5's block is the whole operand. -/
theorem iblk_5 (t : Fin cfg0.N) : iblk m c 5 t = V m c main_arg5 := by
  funext y
  unfold iblk
  rw [View.read_apply]
  show V m c main_arg5 _ = _
  congr 1
  funext a
  apply Fin.ext
  match a with
  | ⟨0, _⟩ => show 0 * 4 + 1 * (y 0).val = (y 0).val; omega
  | ⟨1, _⟩ => show 0 * 5120 + 1 * (y 1).val = (y 1).val; omega
  | ⟨2, _⟩ => show 0 * 768 + 1 * (y 2).val = (y 2).val; omega

/-- Operand 6's block is the whole operand. -/
theorem iblk_6 (t : Fin cfg0.N) : iblk m c 6 t = V m c main_arg6 := by
  funext y
  unfold iblk
  rw [View.read_apply]
  show V m c main_arg6 _ = _
  congr 1
  funext a
  apply Fin.ext
  match a with
  | ⟨0, _⟩ => show 0 * 4 + 1 * (y 0).val = (y 0).val; omega
  | ⟨1, _⟩ => show 0 * 5120 + 1 * (y 1).val = (y 1).val; omega

/-! ## The three arrays -/

/-- The output array, from the operands. -/
theorem arr_7 : (dats m 0 c).arrAt 7 cfg0.N = outArr (codesArr (V m c main_v0)) (scaleArr (V m c main_v0)) (V m c main_v1) (V m c main_v2) (V m c main_arg3) (V m c main_arg4) (V m c main_arg5) (V m c main_arg6) := by
  refine (dats m 0 c).arrAt_eq_of_covers 7 _ (by decide +kernel) fun t hf y => ?_
  show (dats m 0 c).after 7 t y = _
  rw [after0_7, iblk_0, iblk_1, iblk_2, iblk_3, iblk_4, iblk_5, iblk_6]
  refine (congrFun (out7_value (V m c main_v0) (V m c main_v1) (V m c main_v2) (V m c main_arg3) (V m c main_arg4) (V m c main_arg5) (V m c main_arg6)) y).trans ?_
  have e : ((cfg0.win 7).blk t).view.emb y = y := by
    funext a
    apply Fin.ext
    match a with
    | ⟨0, _⟩ => show 0 * 8192 + 1 * (y 0).val = (y 0).val; omega
    | ⟨1, _⟩ => show 0 * 5120 + 1 * (y 1).val = (y 1).val; omega
  exact (congrArg (outArr (codesArr (V m c main_v0)) (scaleArr (V m c main_v0)) (V m c main_v1) (V m c main_v2) (V m c main_arg3) (V m c main_arg4) (V m c main_arg5) (V m c main_arg6)) e).symm

/-- The codes' array, from the operands. -/
theorem arr_8 : (dats m 0 c).arrAt 8 cfg0.N = codesArr (V m c main_v0) := by
  refine (dats m 0 c).arrAt_eq_of_covers 8 _ (by decide +kernel) fun t hf y => ?_
  show (dats m 0 c).after 8 t y = _
  rw [after0_8, iblk_0, iblk_1, iblk_2, iblk_3, iblk_4, iblk_5, iblk_6]
  refine (congrFun (out8_value (V m c main_v0) (V m c main_v1) (V m c main_v2) (V m c main_arg3) (V m c main_arg4) (V m c main_arg5) (V m c main_arg6)) y).trans ?_
  have e : ((cfg0.win 8).blk t).view.emb y = y := by
    funext a
    apply Fin.ext
    match a with
    | ⟨0, _⟩ => show 0 * 8192 + 1 * (y 0).val = (y 0).val; omega
    | ⟨1, _⟩ => show 0 * 5120 + 1 * (y 1).val = (y 1).val; omega
  exact (congrArg (codesArr (V m c main_v0)) e).symm

/-- The scales' array, from the operands. -/
theorem arr_9 : (dats m 0 c).arrAt 9 cfg0.N = scaleArr (V m c main_v0) := by
  refine (dats m 0 c).arrAt_eq_of_covers 9 _ (by decide +kernel) fun t hf y => ?_
  show (dats m 0 c).after 9 t y = _
  rw [after0_9, iblk_0, iblk_1, iblk_2, iblk_3, iblk_4, iblk_5, iblk_6]
  refine (congrFun (out9_value (V m c main_v0) (V m c main_v1) (V m c main_v2) (V m c main_arg3) (V m c main_arg4) (V m c main_arg5) (V m c main_arg6)) y).trans ?_
  have e : ((cfg0.win 9).blk t).view.emb y = y := by
    funext a
    apply Fin.ext
    match a with
    | ⟨0, _⟩ => show 0 * 8192 + 1 * (y 0).val = (y 0).val; omega
    | ⟨1, _⟩ => show 0 * 1 + 1 * (y 1).val = (y 1).val; omega
  exact (congrArg (scaleArr (V m c main_v0)) e).symm

/-! ## From the arguments -/

/-- The tokens as a matrix. -/
def tokens : (⟨2, ![8192, 5120]⟩ : Shape).Idx → EReal :=
  shapeCast S8192x5120 (m ((c.tc : Thread nD τ).loc main_arg0) : Vec Ideal S8x1024x5120 .bf16) shapeCasts_S8x1024x5120_S8192x5120
/-- The routing's expert numbers as a matrix. -/
def ids : (⟨2, ![8192, 2]⟩ : Shape).Idx → BitVec 32 :=
  shapeCast S8192x2 (m ((c.tc : Thread nD τ).loc main_arg1) : Vec Ideal S8x1024x2 .i32) shapeCasts_S8x1024x2_S8192x2
/-- The routing's weights as a matrix. -/
def wts : (⟨2, ![8192, 2]⟩ : Shape).Idx → EReal :=
  shapeCast S8192x2 (m ((c.tc : Thread nD τ).loc main_arg2) : Vec Ideal S8x1024x2 .f32) shapeCasts_S8x1024x2_S8192x2

/-- The first operand is the tokens. -/
theorem V_tokens : V m c main_v0 = tokens m c := by
  show StableHlo.after hostOps0 (fun b => m (c, b)) (Proc.devRef .tc main_v0) = _
  after_results
  rfl
/-- The second operand is the routing's expert numbers. -/
theorem V_ids : V m c main_v1 = ids m c := by
  show StableHlo.after hostOps0 (fun b => m (c, b)) (Proc.devRef .tc main_v1) = _
  after_results
  rfl
/-- The third operand is the routing's weights. -/
theorem V_wts : V m c main_v2 = wts m c := by
  show StableHlo.after hostOps0 (fun b => m (c, b)) (Proc.devRef .tc main_v2) = _
  after_results
  rfl

/-- The output as a matrix. -/
def output : (⟨2, ![8192, 5120]⟩ : Shape).Idx → EReal :=
  outArr (codesArr (tokens m c)) (scaleArr (tokens m c)) (ids m c) (wts m c) (m ((c.tc : Thread nD τ).loc main_arg3))
    (m ((c.tc : Thread nD τ).loc main_arg4)) (m ((c.tc : Thread nD τ).loc main_arg5)) (m ((c.tc : Thread nD τ).loc main_arg6))

/-- The output array, from the arguments. -/
theorem arr_out : (dats m 0 c).arrAt 7 cfg0.N = output m c := by
  rw [arr_7, V_tokens, V_ids, V_wts, V_main_arg3, V_main_arg4, V_main_arg5, V_main_arg6]
  rfl
/-- The codes' array, from the arguments. -/
theorem arr_codes : (dats m 0 c).arrAt 8 cfg0.N = codesArr (tokens m c) := by rw [arr_8, V_tokens]
/-- The scales' array, from the arguments. -/
theorem arr_scale : (dats m 0 c).arrAt 9 cfg0.N = scaleArr (tokens m c) := by rw [arr_9, V_tokens]

/-! ## The three results -/

/-- The reference's windows stage different arrays. -/
theorem arr_inj : Function.Injective (Pipeline.arrRef spec0) := by decide

/-- The first result: the output. -/
theorem result0 : Pipeline.afterTail₀ cfgs (dats m) 0 (V0 m) [hostOps1] c main_v4
    = shapeCast S8x1024x5120 (output m c) shapeCasts_S8192x5120_S8x1024x5120 := by
  show StableHlo.after hostOps1 (Pipeline.withArrays spec0 c (V0 m c) fun w => (dats m 0 c).arrAt w cfg0.N) (Proc.devRef .tc main_v4) = _
  have h := (Pipeline.withArrays_arr spec0 arr_inj c (V0 m c) (fun w => (dats m 0 c).arrAt w cfg0.N) 7).trans (arr_out m c)
  generalize Pipeline.withArrays spec0 c (V0 m c) (fun w => (dats m 0 c).arrAt w cfg0.N) = W at h
  after_results
  refine Eq.trans ?_ (congrArg (fun z => shapeCast S8x1024x5120 z shapeCasts_S8192x5120_S8x1024x5120) h)
  rfl
/-- The second result: the codes. -/
theorem result1 : Pipeline.afterTail₀ cfgs (dats m) 0 (V0 m) [hostOps1] c main_v5
    = shapeCast S8x1024x5120 (codesArr (tokens m c)) shapeCasts_S8192x5120_S8x1024x5120 := by
  show StableHlo.after hostOps1 (Pipeline.withArrays spec0 c (V0 m c) fun w => (dats m 0 c).arrAt w cfg0.N) (Proc.devRef .tc main_v5) = _
  have h := (Pipeline.withArrays_arr spec0 arr_inj c (V0 m c) (fun w => (dats m 0 c).arrAt w cfg0.N) 8).trans (arr_codes m c)
  generalize Pipeline.withArrays spec0 c (V0 m c) (fun w => (dats m 0 c).arrAt w cfg0.N) = W at h
  after_results
  refine Eq.trans ?_ (congrArg (fun z => shapeCast S8x1024x5120 z shapeCasts_S8192x5120_S8x1024x5120) h)
  rfl
/-- The third result: the scales. -/
theorem result2 : Pipeline.afterTail₀ cfgs (dats m) 0 (V0 m) [hostOps1] c main_v6
    = shapeCast S8x1024x1 (scaleArr (tokens m c)) shapeCasts_S8192x1_S8x1024x1 := by
  show StableHlo.after hostOps1 (Pipeline.withArrays spec0 c (V0 m c) fun w => (dats m 0 c).arrAt w cfg0.N) (Proc.devRef .tc main_v6) = _
  have h := (Pipeline.withArrays_arr spec0 arr_inj c (V0 m c) (fun w => (dats m 0 c).arrAt w cfg0.N) 9).trans (arr_scale m c)
  generalize Pipeline.withArrays spec0 c (V0 m c) (fun w => (dats m 0 c).arrAt w cfg0.N) = W at h
  after_results
  refine Eq.trans ?_ (congrArg (fun z => shapeCast S8x1024x1 z shapeCasts_S8192x1_S8x1024x1) h)
  rfl

/-- The reference ends with the output, the codes and the scales, its arguments unchanged. -/
theorem run_values : θ_run defs (onTc (τ := τ) (main (F := Ideal))) ⟨m, fun _ => 0, ρ⟩ (fun r => ∀ c : Dev nD,
      r.2.mem ((c.tc : Thread nD τ).loc main_v4) = shapeCast S8x1024x5120 (output m c) shapeCasts_S8192x5120_S8x1024x5120
      ∧ r.2.mem ((c.tc : Thread nD τ).loc main_v5) = shapeCast S8x1024x5120 (codesArr (tokens m c)) shapeCasts_S8192x5120_S8x1024x5120
      ∧ r.2.mem ((c.tc : Thread nD τ).loc main_v6) = shapeCast S8x1024x1 (scaleArr (tokens m c)) shapeCasts_S8192x1_S8x1024x1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v4 (Pipeline.mem_restRefs_of main_v4 (by decide) (by decide))).trans (result0 m c),
     ((h c).2 main_v5 (Pipeline.mem_restRefs_of main_v5 (by decide) (by decide))).trans (result1 m c),
     ((h c).2 main_v6 (Pipeline.mem_restRefs_of main_v6 (by decide) (by decide))).trans (result2 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).1 3).trans (((dats m 0 c).arrAt_in 3 rfl _).trans ((A_eq m c 3).trans (V_main_arg3 m c))),
     ((h c).1 4).trans (((dats m 0 c).arrAt_in 4 rfl _).trans ((A_eq m c 4).trans (V_main_arg4 m c))),
     ((h c).1 5).trans (((dats m 0 c).arrAt_in 5 rfl _).trans ((A_eq m c 5).trans (V_main_arg5 m c))),
     ((h c).1 6).trans (((dats m 0 c).arrAt_in 6 rfl _).trans ((A_eq m c 6).trans (V_main_arg6 m c)))⟩) (run_main m ρ)

end Cert.ReferenceIdeal.Value
-- ==== Proof.Value.Equation.lean ====
/- The equation: from equal arguments the kernel's idealization and the reference end with the same three results. -/
module

public import proofs.«01_k».proof.Defs
public import proofs.«01_k».proof.Proof.Value.KernelValues
public import proofs.«01_k».proof.Proof.Value.RefValues

@[expose] public section

noncomputable section

namespace Cert.Equation

open Idealize.ShloMosaic Idealize.SL.Sem
open Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- From equal tokens both read the same token matrix. -/
theorem tokens_eq
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    Cert.ReferenceIdeal.Value.tokens m' c = Cert.KernelIdeal.Value.tokens m c := by
  unfold Cert.ReferenceIdeal.Value.tokens
  rw [h]
  rfl

/-- From equal expert numbers both read the same matrix of them. -/
theorem ids_eq
    (h : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Value.ids m' c = Cert.KernelIdeal.Value.ids m c := by
  unfold Cert.ReferenceIdeal.Value.ids
  rw [h]
  rfl

/-- From equal routing weights both read the same matrix of them. -/
theorem wts_eq
    (h : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    Cert.ReferenceIdeal.Value.wts m' c = Cert.KernelIdeal.Value.wts m c := by
  unfold Cert.ReferenceIdeal.Value.wts
  rw [h]
  rfl

/-- The claim: the output, the codes and the scales of the kernel's idealization are the reference's. -/
theorem algebraic : Cert.algebraic_KernelIdeal_ReferenceIdeal (hKernelIdeal := Cert.KernelIdeal.Gen.facts) (hReferenceIdeal := Cert.ReferenceIdeal.Gen.facts) := by
  intro m g m' g' _ harg
  have ht : ∀ c, Cert.ReferenceIdeal.Value.tokens m' c = Cert.KernelIdeal.Value.tokens m c := fun c => tokens_eq m m' c (harg c).1
  have ho : ∀ c, Cert.ReferenceIdeal.Value.output m' c = Cert.KernelIdeal.Value.output m c := fun c => by
    obtain ⟨h0, h1, h2, h3, h4, h5, h6⟩ := harg c
    unfold Cert.ReferenceIdeal.Value.output
    rw [ht c, ids_eq m m' c h1, wts_eq m m' c h2, h3, h4, h5, h6]
    rfl
  refine ⟨fun c => shapeCast Cert.KernelIdeal.S8x1024x5120 (Cert.KernelIdeal.Value.output m c) Cert.KernelIdeal.Gen.shapeCasts_S8192x5120_S8x1024x5120,
    fun c => shapeCast Cert.KernelIdeal.S8x1024x5120 (codesArr (Cert.KernelIdeal.Value.tokens m c)) Cert.KernelIdeal.Gen.shapeCasts_S8192x5120_S8x1024x5120,
    fun c => shapeCast Cert.KernelIdeal.S8x1024x1 (scaleArr (Cert.KernelIdeal.Value.tokens m c)) Cert.KernelIdeal.Gen.shapeCasts_S8192x1_S8x1024x1, ?_, ?_⟩
  · exact (θ_run Cert.KernelIdeal.defs _ _).mono (fun r h c =>
      ⟨(h c).1.trans (Cert.KernelIdeal.Value.result0 m g c), (h c).2.1.trans (Cert.KernelIdeal.Value.result1 m g c),
       (h c).2.2.1.trans (Cert.KernelIdeal.Value.result2 m g c), (h c).2.2.2⟩) (Cert.KernelIdeal.Run.run_values m g)
  · exact (θ_run Cert.ReferenceIdeal.defs _ _).mono (fun r h c =>
      ⟨(h c).1.trans (congrArg (fun z => shapeCast Cert.KernelIdeal.S8x1024x5120 z Cert.KernelIdeal.Gen.shapeCasts_S8192x5120_S8x1024x5120) (ho c)),
       (h c).2.1.trans (congrArg (fun z => shapeCast Cert.KernelIdeal.S8x1024x5120 (codesArr z) Cert.KernelIdeal.Gen.shapeCasts_S8192x5120_S8x1024x5120) (ht c)),
       (h c).2.2.1.trans (congrArg (fun z => shapeCast Cert.KernelIdeal.S8x1024x1 (scaleArr z) Cert.KernelIdeal.Gen.shapeCasts_S8192x1_S8x1024x1) (ht c)),
       (h c).2.2.2⟩) (Cert.ReferenceIdeal.Value.run_values m' g')

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Launch
public import proofs.«01_k».proof.Proof.KernelIdeal.Launch
public import proofs.«01_k».proof.Proof.Value.Equation
public import Idealize.ShloMosaic.Adequacy
public import Idealize.ShloMosaic.Init

@[expose] public section

noncomputable section

namespace Cert.Proof

open Idealize.ShloMosaic Idealize.SL.Sem Cert.Kernel

/-- Everything claimed: the three programs run and leave their arguments as they were, the idealization rewrites nothing, and
    from equal arguments the idealization and the reference end with equal results, all three of them. -/
theorem claim : Cert.Claim := ⟨Cert.Kernel.Gen.facts, Cert.KernelIdeal.Gen.facts, Cert.ReferenceIdeal.Gen.facts,
  fun m ρ _ => Cert.Kernel.Run.frame m ρ, fun m ρ _ => Cert.KernelIdeal.Run.frame m ρ,
  fun m ρ _ => Cert.ReferenceIdeal.Gen.frame m ρ, trivial, Cert.Equation.algebraic⟩

end Cert.Proof

end
